-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x16x64 : Shape := ⟨4, ![4, 2048, 16, 64]⟩
abbrev S4x1x2048x2048 : Shape := ⟨4, ![4, 1, 2048, 2048]⟩
abbrev S_ : Shape := ⟨0, ![]⟩

class Facts : Prop where
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  h_S_ : 0 < S_.numel

variable [Facts]

def fn {F : FTy → Type} [FloatOps F] (main_arg0 : FVec F S4x2048x16x64 .f32) (main_arg1 : FVec F S4x2048x16x64 .f32) (main_arg2 : FVec F S4x2048x16x64 .f32) (main_arg3 : IVec S4x1x2048x2048 1) : IVec S_ 1 :=
  let main_v0 : FVec F S4x2048x16x64 .f32 := Host.absf main_arg0
  let main_cst : FVec F S_ .f32 := constant S_ .f32 0x7F800000#32
  let main_v1 : FVec F S4x2048x16x64 .f32 := broadcastInDim S4x2048x16x64 ![] bcast_S_S4x2048x16x64 main_cst
  let main_v2 : IVec S4x2048x16x64 1 := cmpf .olt main_v0 main_v1
  let main_c : IVec S_ 1 := constantI S_ 1 1#1
  let main_v3 : IVec S_ 1 := (fun x v => Host.reduce IntOp.andi x v reducesTo_S4x2048x16x64_S_d0_1_2_3 h_S_) main_v2 main_c
  let main_v4 : FVec F S4x2048x16x64 .f32 := Host.absf main_arg1
  let main_cst_0 : FVec F S_ .f32 := constant S_ .f32 0x7F800000#32
  let main_v5 : FVec F S4x2048x16x64 .f32 := broadcastInDim S4x2048x16x64 ![] bcast_S_S4x2048x16x64 main_cst_0
  let main_v6 : IVec S4x2048x16x64 1 := cmpf .olt main_v4 main_v5
  let main_c_1 : IVec S_ 1 := constantI S_ 1 1#1
  let main_v7 : IVec S_ 1 := (fun x v => Host.reduce IntOp.andi x v reducesTo_S4x2048x16x64_S_d0_1_2_3 h_S_) main_v6 main_c_1
  let main_v8 : FVec F S4x2048x16x64 .f32 := Host.absf main_arg2
  let main_cst_2 : FVec F S_ .f32 := constant S_ .f32 0x7F800000#32
  let main_v9 : FVec F S4x2048x16x64 .f32 := broadcastInDim S4x2048x16x64 ![] bcast_S_S4x2048x16x64 main_cst_2
  let main_v10 : IVec S4x2048x16x64 1 := cmpf .olt main_v8 main_v9
  let main_c_3 : IVec S_ 1 := constantI S_ 1 1#1
  let main_v11 : IVec S_ 1 := (fun x v => Host.reduce IntOp.andi x v reducesTo_S4x2048x16x64_S_d0_1_2_3 h_S_) main_v10 main_c_3
  let main_v12 : IVec S_ 1 := andi main_v3 main_v7
  let main_v13 : IVec S_ 1 := andi main_v12 main_v11
  main_v13
-- ==== Kernel.lean ====
abbrev S4x2048x16x64 : Shape := ⟨4, ![4, 2048, 16, 64]⟩
abbrev S4x1x2048x2048 : Shape := ⟨4, ![4, 1, 2048, 2048]⟩
abbrev S16 : Shape := ⟨1, ![16]⟩
abbrev S128 : Shape := ⟨1, ![128]⟩
abbrev S_ : Shape := ⟨0, ![]⟩
abbrev S16x1 : Shape := ⟨2, ![16, 1]⟩
abbrev S1x16 : Shape := ⟨2, ![1, 16]⟩
abbrev S16x16 : Shape := ⟨2, ![16, 16]⟩
abbrev S128x1 : Shape := ⟨2, ![128, 1]⟩
abbrev S1x128 : Shape := ⟨2, ![1, 128]⟩
abbrev S128x128 : Shape := ⟨2, ![128, 128]⟩
abbrev S128x16 : Shape := ⟨2, ![128, 16]⟩
abbrev S16x32 : Shape := ⟨2, ![16, 32]⟩
abbrev S128x256 : Shape := ⟨2, ![128, 256]⟩
abbrev S256x256 : Shape := ⟨2, ![256, 256]⟩
abbrev S32x16 : Shape := ⟨2, ![32, 16]⟩
abbrev S48x32 : Shape := ⟨2, ![48, 32]⟩
abbrev S768x256 : Shape := ⟨2, ![768, 256]⟩
abbrev S96x16 : Shape := ⟨2, ![96, 16]⟩
abbrev S16x128 : Shape := ⟨2, ![16, 128]⟩
abbrev S1x16x128 : Shape := ⟨3, ![1, 16, 128]⟩
abbrev S4x16x64x2048 : Shape := ⟨4, ![4, 16, 64, 2048]⟩
abbrev S4096x16x128 : Shape := ⟨3, ![4096, 16, 128]⟩
abbrev S128x16x128 : Shape := ⟨3, ![128, 16, 128]⟩
abbrev S128x128x16 : Shape := ⟨3, ![128, 128, 16]⟩
abbrev S128x128x48 : Shape := ⟨3, ![128, 128, 48]⟩
abbrev S16384x48 : Shape := ⟨2, ![16384, 48]⟩
abbrev S16384x32 : Shape := ⟨2, ![16384, 32]⟩
abbrev S128x128x32 : Shape := ⟨3, ![128, 128, 32]⟩
abbrev S128x32x128 : Shape := ⟨3, ![128, 32, 128]⟩
abbrev S128x16x768 : Shape := ⟨3, ![128, 16, 768]⟩
abbrev S2048x768 : Shape := ⟨2, ![2048, 768]⟩
abbrev S2048x256 : Shape := ⟨2, ![2048, 256]⟩
abbrev S128x16x256 : Shape := ⟨3, ![128, 16, 256]⟩
abbrev S128x128x96 : Shape := ⟨3, ![128, 128, 96]⟩
abbrev S16384x96 : Shape := ⟨2, ![16384, 96]⟩
abbrev S16384x16 : Shape := ⟨2, ![16384, 16]⟩
abbrev S128x1x128 : Shape := ⟨3, ![128, 1, 128]⟩
abbrev S128x1x1 : Shape := ⟨3, ![128, 1, 1]⟩

abbrev nBuf : Space → Nat
  | .hbm => 107
  | .vmem => 18
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x1x2048x2048, .i1⟩
  | .hbm, ⟨4, _⟩ => ⟨S16, .i32⟩
  | .hbm, ⟨5, _⟩ => ⟨S128, .i32⟩
  | .hbm, ⟨6, _⟩ => ⟨S_, .f32⟩
  | .hbm, ⟨7, _⟩ => ⟨S_, .f32⟩
  | .hbm, ⟨8, _⟩ => ⟨S16x1, .i32⟩
  | .hbm, ⟨9, _⟩ => ⟨S1x16, .i32⟩
  | .hbm, ⟨10, _⟩ => ⟨S16x16, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16x16, .f32⟩
  | .hbm, ⟨22, _⟩ => ⟨S16x16, .f32⟩
  | .hbm, ⟨23, _⟩ => ⟨S128x1, .i32⟩
  | .hbm, ⟨24, _⟩ => ⟨S1x128, .i32⟩
  | .hbm, ⟨25, _⟩ => ⟨S128x128, .i32⟩
  | .hbm, ⟨26, _⟩ => ⟨S128x128, .i32⟩
  | .hbm, ⟨27, _⟩ => ⟨S128x128, .i32⟩
  | .hbm, ⟨28, _⟩ => ⟨S_, .i32⟩
  | .hbm, ⟨29, _⟩ => ⟨S128x128, .i32⟩
  | .hbm, ⟨30, _⟩ => ⟨S128x128, .i32⟩
  | .hbm, ⟨31, _⟩ => ⟨S128x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S16x16, .f32⟩
  | .hbm, ⟨39, _⟩ => ⟨S16x16, .f32⟩
  | .hbm, ⟨40, _⟩ => ⟨S128x128, .f32⟩
  | .hbm, ⟨41, _⟩ => ⟨S128x128, .f32⟩
  | .hbm, ⟨42, _⟩ => ⟨S128x1, .i32⟩
  | .hbm, ⟨43, _⟩ => ⟨S1x16, .i32⟩
  | .hbm, ⟨44, _⟩ => ⟨S128x16, .i32⟩
  | .hbm, ⟨45, _⟩ => ⟨S128x16, .i32⟩
  | .hbm, ⟨46, _⟩ => ⟨S128x16, .i32⟩
  | .hbm, ⟨47, _⟩ => ⟨S_, .i32⟩
  | .hbm, ⟨48, _⟩ => ⟨S128x16, .i32⟩
  | .hbm, ⟨49, _⟩ => ⟨S128x16, .i32⟩
  | .hbm, ⟨50, _⟩ => ⟨S128x16, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S128x16, .f32⟩
  | .hbm, ⟨56, _⟩ => ⟨S128x16, .f32⟩
  | .hbm, ⟨57, _⟩ => ⟨S128x16, .f32⟩
  | .hbm, ⟨58, _⟩ => ⟨S128x16, .f32⟩
  | .hbm, ⟨59, _⟩ => ⟨S16x16, .f32⟩
  | .hbm, ⟨60, _⟩ => ⟨S16x32, .f32⟩
  | .hbm, ⟨61, _⟩ => ⟨S128x128, .f32⟩
  | .hbm, ⟨62, _⟩ => ⟨S128x256, .f32⟩
  | .hbm, ⟨63, _⟩ => ⟨S128x256, .f32⟩
  | .hbm, ⟨64, _⟩ => ⟨S256x256, .f32⟩
  | .hbm, ⟨65, _⟩ => ⟨S128x128, .f32⟩
  | .hbm, ⟨66, _⟩ => ⟨S128x256, .f32⟩
  | .hbm, ⟨67, _⟩ => ⟨S128x256, .f32⟩
  | .hbm, ⟨68, _⟩ => ⟨S256x256, .f32⟩
  | .hbm, ⟨69, _⟩ => ⟨S16x16, .f32⟩
  | .hbm, ⟨70, _⟩ => ⟨S32x16, .f32⟩
  | .hbm, ⟨71, _⟩ => ⟨S_, .f32⟩
  | .hbm, ⟨72, _⟩ => ⟨S32x16, .f32⟩
  | .hbm, ⟨73, _⟩ => ⟨S32x16, .f32⟩
  | .hbm, ⟨74, _⟩ => ⟨S16x32, .bf16⟩
  | .hbm, ⟨75, _⟩ => ⟨S16x32, .f32⟩
  | .hbm, ⟨76, _⟩ => ⟨S16x32, .f32⟩
  | .hbm, ⟨77, _⟩ => ⟨S16x32, .bf16⟩
  | .hbm, ⟨78, _⟩ => ⟨S48x32, .bf16⟩
  | .hbm, ⟨79, _⟩ => ⟨S256x256, .bf16⟩
  | .hbm, ⟨80, _⟩ => ⟨S256x256, .f32⟩
  | .hbm, ⟨81, _⟩ => ⟨S256x256, .f32⟩
  | .hbm, ⟨82, _⟩ => ⟨S256x256, .bf16⟩
  | .hbm, ⟨83, _⟩ => ⟨S768x256, .bf16⟩
  | .hbm, ⟨84, _⟩ => ⟨S256x256, .bf16⟩
  | .hbm, ⟨85, _⟩ => ⟨S256x256, .f32⟩
  | .hbm, ⟨86, _⟩ => ⟨S256x256, .f32⟩
  | .hbm, ⟨87, _⟩ => ⟨S256x256, .bf16⟩
  | .hbm, ⟨88, _⟩ => ⟨S768x256, .bf16⟩
  | .hbm, ⟨89, _⟩ => ⟨S32x16, .bf16⟩
  | .hbm, ⟨90, _⟩ => ⟨S32x16, .f32⟩
  | .hbm, ⟨91, _⟩ => ⟨S32x16, .f32⟩
  | .hbm, ⟨92, _⟩ => ⟨S32x16, .bf16⟩
  | .hbm, ⟨93, _⟩ => ⟨S96x16, .bf16⟩
  | .hbm, ⟨94, _⟩ => ⟨S16x128, .f32⟩
  | .hbm, ⟨95, _⟩ => ⟨S1x16x128, .f32⟩
  | .hbm, ⟨96, _⟩ => ⟨S16x128, .f32⟩
  | .hbm, ⟨97, _⟩ => ⟨S1x16x128, .f32⟩
  | .hbm, ⟨98, _⟩ => ⟨S4x16x64x2048, .f32⟩
  | .hbm, ⟨99, _⟩ => ⟨S4096x16x128, .f32⟩
  | .hbm, ⟨100, _⟩ => ⟨S4x16x64x2048, .f32⟩
  | .hbm, ⟨101, _⟩ => ⟨S4096x16x128, .f32⟩
  | .hbm, ⟨102, _⟩ => ⟨S4x16x64x2048, .f32⟩
  | .hbm, ⟨103, _⟩ => ⟨S4096x16x128, .f32⟩
  | .hbm, ⟨104, _⟩ => ⟨S4096x16x128, .f32⟩
  | .hbm, ⟨105, _⟩ => ⟨S4x16x64x2048, .f32⟩
  | .hbm, ⟨106, _⟩ => ⟨S4x2048x16x64, .f32⟩
  | .local _ .vmem, ⟨0, _⟩ => ⟨S128x16x128, .f32⟩
  | .local _ .vmem, ⟨1, _⟩ => ⟨S128x16x128, .f32⟩
  | .local _ .vmem, ⟨2, _⟩ => ⟨S128x16x128, .f32⟩
  | .local _ .vmem, ⟨3, _⟩ => ⟨S128x16x128, .f32⟩
  | .local _ .vmem, ⟨4, _⟩ => ⟨S128x16x128, .f32⟩
  | .local _ .vmem, ⟨5, _⟩ => ⟨S128x16x128, .f32⟩
  | .local _ .vmem, ⟨6, _⟩ => ⟨S16x32, .bf16⟩
  | .local _ .vmem, ⟨7, _⟩ => ⟨S48x32, .bf16⟩
  | .local _ .vmem, ⟨8, _⟩ => ⟨S256x256, .bf16⟩
  | .local _ .vmem, ⟨9, _⟩ => ⟨S768x256, .bf16⟩
  | .local _ .vmem, ⟨10, _⟩ => ⟨S256x256, .bf16⟩
  | .local _ .vmem, ⟨11, _⟩ => ⟨S768x256, .bf16⟩
  | .local _ .vmem, ⟨12, _⟩ => ⟨S32x16, .bf16⟩
  | .local _ .vmem, ⟨13, _⟩ => ⟨S96x16, .bf16⟩
  | .local _ .vmem, ⟨14, _⟩ => ⟨S1x16x128, .f32⟩
  | .local _ .vmem, ⟨15, _⟩ => ⟨S1x16x128, .f32⟩
  | .local _ .vmem, ⟨16, _⟩ => ⟨S128x16x128, .f32⟩
  | .local _ .vmem, ⟨17, _⟩ => ⟨S128x16x128, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_v0 : Ref sig .tc := ⟨.hbm, 62, rfl⟩
abbrev main_call0_v1 : Ref sig .tc := ⟨.hbm, 63, rfl⟩
abbrev main_v48 : Ref sig .tc := ⟨.hbm, 64, rfl⟩
abbrev main_v49 : Ref sig .tc := ⟨.hbm, 65, rfl⟩
abbrev main_call1_v0 : Ref sig .tc := ⟨.hbm, 66, rfl⟩
abbrev main_call1_v1 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x16 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x16x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x2048x16x64 : Shape := ⟨4, ![4, 2048, 16, 64]⟩
abbrev S4x1x2048x2048 : Shape := ⟨4, ![4, 1, 2048, 2048]⟩
abbrev S4x16x64x2048 : Shape := ⟨4, ![4, 16, 64, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S4x16x64x2048x2048 : Shape := ⟨5, ![4, 16, 64, 2048, 2048]⟩
abbrev S4x16x64x1x2048 : Shape := ⟨5, ![4, 16, 64, 1, 2048]⟩
abbrev S4x16x64x7 : Shape := ⟨4, ![4, 16, 64, 7]⟩
abbrev S4x16x64 : Shape := ⟨3, ![4, 16, 64]⟩
abbrev S4x16x64x1 : Shape := ⟨4, ![4, 16, 64, 1]⟩
abbrev S4x16x64x4096 : Shape := ⟨4, ![4, 16, 64, 4096]⟩
abbrev S1x1x1x2048 : Shape := ⟨4, ![1, 1, 1, 2048]⟩
abbrev S4x16x64x2048x1 : Shape := ⟨5, ![4, 16, 64, 2048, 1]⟩

abbrev nBuf : Space → Nat
  | .hbm => 176
  | .vmem => 0
  | .smem => 0
  | _ => 0

abbrev hbmTy0_0 (i : Nat) : BufTy := match i % 128 with
  | 0 => ⟨S4x2048x16x64, .f32⟩
  | 1 => ⟨S4x2048x16x64, .f32⟩
  | 2 => ⟨S4x2048x16x64, .f32⟩
  | 3 => ⟨S4x1x2048x2048, .i1⟩
  | 4 => ⟨S4x16x64x2048, .f32⟩
  | 5 => ⟨S4x16x64x2048, .f32⟩
  | 6 => ⟨S4x16x64x2048, .f32⟩
  | 7 => ⟨S2048, .i32⟩
  | 8 => ⟨S2048x1, .i32⟩
  | 9 => ⟨S1x2048, .i32⟩
  | 10 => ⟨S2048x2048, .i32⟩
  | 11 => ⟨S2048x2048, .i32⟩
  | 12 => ⟨S2048x2048, .i32⟩
  | 13 => ⟨S_, .i32⟩
  | 14 => ⟨S2048x2048, .i32⟩
  | 15 => ⟨S2048x2048, .i32⟩
  | 16 => ⟨S_, .i32⟩
  | 17 => ⟨S2048x2048, .i32⟩
  | 18 => ⟨S2048x2048, .i1⟩
  | 19 => ⟨S_, .i32⟩
  | 20 => ⟨S2048x2048, .i32⟩
  | 21 => ⟨S2048x2048, .i32⟩
  | 22 => ⟨S2048x2048, .i32⟩
  | 23 => ⟨S2048x2048x1, .i32⟩
  | 24 => ⟨S4x16x64x2048x2048, .f32⟩
  | 25 => ⟨S4x16x64x1x2048, .f32⟩
  | 26 => ⟨S4x16x64x2048x2048, .f32⟩
  | 27 => ⟨S4x16x64x2048x2048, .f32⟩
  | 28 => ⟨S_, .f32⟩
  | 29 => ⟨S4x16x64x2048, .f32⟩
  | 30 => ⟨S4x16x64x7, .f32⟩
  | 31 => ⟨S4x16x64x7, .i32⟩
  | 32 => ⟨S_, .f32⟩
  | 33 => ⟨S4x16x64, .f32⟩
  | 34 => ⟨S_, .f32⟩
  | 35 => ⟨S4x16x64, .f32⟩
  | 36 => ⟨S4x16x64, .f32⟩
  | 37 => ⟨S4x16x64x1, .f32⟩
  | 38 => ⟨S4x16x64x7, .f32⟩
  | 39 => ⟨S4x16x64x7, .f32⟩
  | 40 => ⟨S4x16x64x7, .f32⟩
  | 41 => ⟨S_, .f32⟩
  | 42 => ⟨S4x16x64, .f32⟩
  | 43 => ⟨S4x16x64x1, .f32⟩
  | 44 => ⟨S4x16x64x7, .f32⟩
  | 45 => ⟨S4x16x64x7, .f32⟩
  | 46 => ⟨S4x16x64x4096, .f32⟩
  | 47 => ⟨S_, .f32⟩
  | 48 => ⟨S4x16x64x2048, .f32⟩
  | 49 => ⟨S1x1x1x2048, .i32⟩
  | 50 => ⟨S4x16x64x1, .i32⟩
  | 51 => ⟨S4x16x64x2048, .i32⟩
  | 52 => ⟨S4x16x64x2048, .i32⟩
  | 53 => ⟨S4x16x64x2048, .i32⟩
  | 54 => ⟨S_, .i32⟩
  | 55 => ⟨S4x16x64x2048, .i32⟩
  | 56 => ⟨S4x16x64x2048, .i1⟩
  | 57 => ⟨S_, .i32⟩
  | 58 => ⟨S4x16x64x2048, .i32⟩
  | 59 => ⟨S4x16x64x2048, .i32⟩
  | 60 => ⟨S4x16x64x2048, .i32⟩
  | 61 => ⟨S4x16x64x2048x1, .i32⟩
  | 62 => ⟨S4x16x64x2048, .f32⟩
  | 63 => ⟨S4x16x64x1, .f32⟩
  | 64 => ⟨S4x16x64x2048, .f32⟩
  | 65 => ⟨S4x16x64x2048, .f32⟩
  | 66 => ⟨S4x16x64x2048, .f32⟩
  | 67 => ⟨S1x1x1x2048, .i32⟩
  | 68 => ⟨S4x16x64x1, .i32⟩
  | 69 => ⟨S4x16x64x2048, .i32⟩
  | 70 => ⟨S4x16x64x2048, .i32⟩
  | 71 => ⟨S4x16x64x2048, .i32⟩
  | 72 => ⟨S_, .i32⟩
  | 73 => ⟨S4x16x64x2048, .i32⟩
  | 74 => ⟨S4x16x64x2048, .i1⟩
  | 75 => ⟨S_, .i32⟩
  | 76 => ⟨S4x16x64x2048, .i32⟩
  | 77 => ⟨S4x16x64x2048, .i32⟩
  | 78 => ⟨S4x16x64x2048, .i32⟩
  | 79 => ⟨S4x16x64x2048x1, .i32⟩
  | 80 => ⟨S4x16x64x2048, .f32⟩
  | 81 => ⟨S4x16x64x1, .f32⟩
  | 82 => ⟨S4x16x64x2048, .f32⟩
  | 83 => ⟨S4x16x64x2048, .f32⟩
  | 84 => ⟨S4x16x64x2048, .f32⟩
  | 85 => ⟨S1x1x1x2048, .i32⟩
  | 86 => ⟨S4x16x64x1, .i32⟩
  | 87 => ⟨S4x16x64x2048, .i32⟩
  | 88 => ⟨S4x16x64x2048, .i32⟩
  | 89 => ⟨S4x16x64x2048, .i32⟩
  | 90 => ⟨S_, .i32⟩
  | 91 => ⟨S4x16x64x2048, .i32⟩
  | 92 => ⟨S4x16x64x2048, .i1⟩
  | 93 => ⟨S_, .i32⟩
  | 94 => ⟨S4x16x64x2048, .i32⟩
  | 95 => ⟨S4x16x64x2048, .i32⟩
  | 96 => ⟨S4x16x64x2048, .i32⟩
  | 97 => ⟨S4x16x64x2048x1, .i32⟩
  | 98 => ⟨S4x16x64x2048, .f32⟩
  | 99 => ⟨S4x16x64x1, .f32⟩
  | 100 => ⟨S4x16x64x2048, .f32⟩
  | 101 => ⟨S4x16x64x2048, .f32⟩
  | 102 => ⟨S4x16x64x2048, .f32⟩
  | 103 => ⟨S1x1x1x2048, .i32⟩
  | 104 => ⟨S4x16x64x1, .i32⟩
  | 105 => ⟨S4x16x64x2048, .i32⟩
  | 106 => ⟨S4x16x64x2048, .i32⟩
  | 107 => ⟨S4x16x64x2048, .i32⟩
  | 108 => ⟨S_, .i32⟩
  | 109 => ⟨S4x16x64x2048, .i32⟩
  | 110 => ⟨S4x16x64x2048, .i1⟩
  | 111 => ⟨S_, .i32⟩
  | 112 => ⟨S4x16x64x2048, .i32⟩
  | 113 => ⟨S4x16x64x2048, .i32⟩
  | 114 => ⟨S4x16x64x2048, .i32⟩
  | 115 => ⟨S4x16x64x2048x1, .i32⟩
  | 116 => ⟨S4x16x64x2048, .f32⟩
  | 117 => ⟨S4x16x64x1, .f32⟩
  | 118 => ⟨S4x16x64x2048, .f32⟩
  | 119 => ⟨S4x16x64x2048, .f32⟩
  | 120 => ⟨S4x16x64x2048, .f32⟩
  | 121 => ⟨S1x1x1x2048, .i32⟩
  | 122 => ⟨S4x16x64x1, .i32⟩
  | 123 => ⟨S4x16x64x2048, .i32⟩
  | 124 => ⟨S4x16x64x2048, .i32⟩
  | 125 => ⟨S4x16x64x2048, .i32⟩
  | 126 => ⟨S_, .i32⟩
  | 127 => ⟨S4x16x64x2048, .i32⟩
  | _ => ⟨S4x2048x16x64, .f32⟩

abbrev hbmTy0_1 (i : Nat) : BufTy := match i % 128 with
  | 0 => ⟨S4x16x64x2048, .i1⟩
  | 1 => ⟨S_, .i32⟩
  | 2 => ⟨S4x16x64x2048, .i32⟩
  | 3 => ⟨S4x16x64x2048, .i32⟩
  | 4 => ⟨S4x16x64x2048, .i32⟩
  | 5 => ⟨S4x16x64x2048x1, .i32⟩
  | 6 => ⟨S4x16x64x2048, .f32⟩
  | 7 => ⟨S4x16x64x1, .f32⟩
  | 8 => ⟨S4x16x64x2048, .f32⟩
  | 9 => ⟨S4x16x64x2048, .f32⟩
  | 10 => ⟨S4x16x64x2048, .f32⟩
  | 11 => ⟨S1x1x1x2048, .i32⟩
  | 12 => ⟨S4x16x64x1, .i32⟩
  | 13 => ⟨S4x16x64x2048, .i32⟩
  | 14 => ⟨S4x16x64x2048, .i32⟩
  | 15 => ⟨S4x16x64x2048, .i32⟩
  | 16 => ⟨S_, .i32⟩
  | 17 => ⟨S4x16x64x2048, .i32⟩
  | 18 => ⟨S4x16x64x2048, .i1⟩
  | 19 => ⟨S_, .i32⟩
  | 20 => ⟨S4x16x64x2048, .i32⟩
  | 21 => ⟨S4x16x64x2048, .i32⟩
  | 22 => ⟨S4x16x64x2048, .i32⟩
  | 23 => ⟨S4x16x64x2048x1, .i32⟩
  | 24 => ⟨S4x16x64x2048, .f32⟩
  | 25 => ⟨S4x16x64x1, .f32⟩
  | 26 => ⟨S4x16x64x2048, .f32⟩
  | 27 => ⟨S4x16x64x2048, .f32⟩
  | 28 => ⟨S4x16x64x2048, .f32⟩
  | 29 => ⟨S1x1x1x2048, .i32⟩
  | 30 => ⟨S4x16x64x1, .i32⟩
  | 31 => ⟨S4x16x64x2048, .i32⟩
  | 32 => ⟨S4x16x64x2048, .i32⟩
  | 33 => ⟨S4x16x64x2048, .i32⟩
  | 34 => ⟨S_, .i32⟩
  | 35 => ⟨S4x16x64x2048, .i32⟩
  | 36 => ⟨S4x16x64x2048, .i1⟩
  | 37 => ⟨S_, .i32⟩
  | 38 => ⟨S4x16x64x2048, .i32⟩
  | 39 => ⟨S4x16x64x2048, .i32⟩
  | 40 => ⟨S4x16x64x2048, .i32⟩
  | 41 => ⟨S4x16x64x2048x1, .i32⟩
  | 42 => ⟨S4x16x64x2048, .f32⟩
  | 43 => ⟨S4x16x64x1, .f32⟩
  | 44 => ⟨S4x16x64x2048, .f32⟩
  | 45 => ⟨S4x16x64x2048, .f32⟩
  | 46 => ⟨S4x16x64x2048, .f32⟩
  | 47 => ⟨S4x2048x16x64, .f32⟩
  | _ => ⟨S4x2048x16x64, .f32⟩

abbrev hbmTy (i : Nat) : BufTy := match i / 128 with
  | 0 => hbmTy0_0 i
  | 1 => hbmTy0_1 i
  | _ => ⟨S4x2048x16x64, .f32⟩

abbrev bufTy : (tb : Table) → Fin (tcTables nBuf tb) → BufTy
  | .hbm, ⟨i, _⟩ => hbmTy i
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_values : Ref sig .tc := ⟨.hbm, 30, rfl⟩
abbrev main_indices : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_c : Ref sig .tc := ⟨.hbm, 72, rfl⟩
abbrev main_call1_v0 : Ref sig .tc := ⟨.hbm, 73, rfl⟩
abbrev main_call1_v1 : Ref sig .tc := ⟨.hbm, 74, rfl⟩
abbrev main_call1_c_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call3_c : Ref sig .tc := ⟨.hbm, 108, rfl⟩
abbrev main_call3_v0 : Ref sig .tc := ⟨.hbm, 109, rfl⟩
abbrev main_call3_v1 : Ref sig .tc := ⟨.hbm, 110, rfl⟩
abbrev main_call3_c_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_call4_c : Ref sig .tc := ⟨.hbm, 126, rfl⟩
abbrev main_call4_v0 : Ref sig .tc := ⟨.hbm, 127, rfl⟩
abbrev main_call4_v1 : Ref sig .tc := ⟨.hbm, 128, rfl⟩
abbrev main_call4_c_0 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_v5 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_call5_c : Ref sig .tc := ⟨.hbm, 144, rfl⟩
abbrev main_call5_v0 : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_call6_c : Ref sig .tc := ⟨.hbm, 162, rfl⟩
abbrev main_call6_v0 : Ref sig .tc := ⟨.hbm, 163, rfl⟩
abbrev main_call6_v1 : Ref sig .tc := ⟨.hbm, 164, rfl⟩
abbrev main_call6_c_0 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_call6_v5 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩

abbrev nD : Nat := 1
abbrev τ : Topo := Topo.v7x

variable {F : FTy → Type} [FloatOps F]
-- ==== Proof.Layout.lean ====
/-
  Readings of the layout operations that the kernel's transforms are made of, at any extents: equal pieces joined along an
  axis, a matrix product applied to the last axis of a rank-3 array, and a sum cut into equal blocks.
-/
module

public import Mathlib.Data.EReal.Operations
public import Mathlib.Algebra.BigOperators.Fin
public import Idealize.ShloMosaic.Lib.MatmulPlain
public import Idealize.ShloMosaic.Lib.Pipeline.Value
public import Idealize.ShloMosaic.Lib.ValueIdx

@[expose] public section

noncomputable section

namespace Cert.Layout

open Idealize.ShloMosaic Idealize.ShloMosaic.ValueIdx

/-- A sum of real numbers read as extended reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over `a · b` positions, block by block. -/
theorem sum_blocks {M : Type} [AddCommMonoid M] (a b : ℕ) {N : ℕ} (h : N = a * b) (f : Fin N → M) :
    ∑ i, f i = ∑ p : Fin a, ∑ q : Fin b, f ⟨q.val + b * p.val, by
      have := p.isLt; have := q.isLt; subst h
      calc q.val + b * p.val < b + b * p.val := by omega
        _ = b * (p.val + 1) := by ring
        _ ≤ b * a := Nat.mul_le_mul_left _ p.isLt
        _ = a * b := Nat.mul_comm _ _⟩ := by
  subst h
  rw [← finProdFinEquiv.sum_comp, Fintype.sum_prod_type]
  rfl

variable {α : Type}

/-- The widths of the first `k` of equal pieces add up to `k` widths. -/
theorem take_sum {S : Shape} (vs : List (S.Idx → α)) (g : Shape → ℕ) (k : ℕ) (hk : k < vs.length) :
    (((((vs.map fun v => (⟨S, v⟩ : (s : Shape) × (s.Idx → α))).take k).map (·.1))).map g).sum = g S * k := by
  rw [← List.map_take, List.map_map, List.map_map]
  rw [show ((g ∘ fun x : (s : Shape) × (s.Idx → α) => x.1) ∘ fun v => (⟨S, v⟩ : (s : Shape) × (s.Idx → α)))
    = fun _ : S.Idx → α => g S from rfl, List.map_const', List.sum_replicate, List.length_take, min_eq_left (le_of_lt hk)]
  exact Nat.mul_comm _ _

/-- Equal pieces joined along the last axis: position `q` of piece `p`. -/
theorem concat_last {a b n N : ℕ} (vs : List ((⟨3, ![a, b, n]⟩ : Shape).Idx → α))
    (h : Shape.Concatenates ((vs.map fun v => (⟨⟨3, ![a, b, n]⟩, v⟩ : (s : Shape) × (s.Idx → α))).map (·.1)) ⟨3, ![a, b, N]⟩ 2)
    (c : Fin a) (i : Fin b) (p : ℕ) (hp : p < vs.length) (q : Fin n) (hq : q.val + n * p < N) :
    concatenate ⟨3, ![a, b, N]⟩ 2 (vs.map fun v => (⟨⟨3, ![a, b, n]⟩, v⟩ : (s : Shape) × (s.Idx → α))) h
      (ix3 c i (⟨q.val + n * p, hq⟩ : Fin N)) = vs[p] (ix3 c i q) := by
  refine concatenate_apply_piece (t := ⟨3, ![a, b, N]⟩) 2 _ h _ p (by simpa using hp) ⟨3, ![a, b, n]⟩ vs[p] (by simp) rfl (n * p)
    (take_sum vs _ p hp) (ix3 c i q) (fun e he => ?_) (by show n * p + q.val = q.val + n * p; omega)
  match e with
  | ⟨0, _⟩ => rfl
  | ⟨1, _⟩ => rfl
  | ⟨2, _⟩ => exact absurd rfl he

/-- Equal pieces joined along the middle axis: position `q` of piece `p`. -/
theorem concat_mid {a b n N : ℕ} (vs : List ((⟨3, ![a, n, b]⟩ : Shape).Idx → α))
    (h : Shape.Concatenates ((vs.map fun v => (⟨⟨3, ![a, n, b]⟩, v⟩ : (s : Shape) × (s.Idx → α))).map (·.1)) ⟨3, ![a, N, b]⟩ 1)
    (c : Fin a) (i : Fin b) (p : ℕ) (hp : p < vs.length) (q : Fin n) (hq : q.val + n * p < N) :
    concatenate ⟨3, ![a, N, b]⟩ 1 (vs.map fun v => (⟨⟨3, ![a, n, b]⟩, v⟩ : (s : Shape) × (s.Idx → α))) h
      (ix3 c (⟨q.val + n * p, hq⟩ : Fin N) i) = vs[p] (ix3 c q i) := by
  refine concatenate_apply_piece (t := ⟨3, ![a, N, b]⟩) 1 _ h _ p (by simpa using hp) ⟨3, ![a, n, b]⟩ vs[p] (by simp) rfl (n * p)
    (take_sum vs _ p hp) (ix3 c q i) (fun e he => ?_) (by show n * p + q.val = q.val + n * p; omega)
  match e with
  | ⟨0, _⟩ => rfl
  | ⟨1, _⟩ => exact absurd rfl he
  | ⟨2, _⟩ => rfl

/-- The transpose that swaps the last two axes. -/
theorem swap_apply {a b c : ℕ} (x : (⟨3, ![a, b, c]⟩ : Shape).Idx → α)
    (h : (⟨3, ![a, b, c]⟩ : Shape).Transposes [0, 2, 1] ⟨3, ![a, c, b]⟩) (i : Fin a) (j : Fin c) (k : Fin b) :
    transpose ⟨3, ![a, c, b]⟩ [0, 2, 1] x h (ix3 i j k) = x (ix3 i k j) :=
  transpose_apply [0, 2, 1] x h _ _ fun e => match e with
    | ⟨0, _⟩ => rfl
    | ⟨1, _⟩ => rfl
    | ⟨2, _⟩ => rfl

/-- A matrix product over the last axis of a rank-3 array: the first two axes are merged, the product taken, and the axes split
    again. -/
theorem mat_apply {a b R K M : ℕ} {φ₁ φ₂ : FTy} (hR : R = a * b) (A : FVec Ideal ⟨3, ![a, b, K]⟩ φ₁) (w : FVec Ideal ⟨2, ![K, M]⟩ φ₂)
    (acc : FVec Ideal ⟨2, ![R, M]⟩ .f32) (hacc : ∀ r, acc r = 0)
    (h : (⟨3, ![a, b, K]⟩ : Shape).ShapeCasts ⟨2, ![R, K]⟩) (h' : (⟨2, ![R, M]⟩ : Shape).ShapeCasts ⟨3, ![a, b, M]⟩)
    (prec : Option ContractPrecision) (c : Fin a) (i : Fin b) (m : Fin M) :
    shapeCast ⟨3, ![a, b, M]⟩ (FloatOps.matmul (DotDims.plain R K M) prec (shapeCast ⟨2, ![R, K]⟩ A h) w acc) h' (ix3 c i m)
      = ∑ k : Fin K, A (ix3 c i k) * w (ix2 k m) := by
  have hlt : c.val * b + i.val < R := by
    subst hR
    calc c.val * b + i.val < c.val * b + b := by have := i.isLt; omega
      _ = (c.val + 1) * b := by ring
      _ ≤ a * b := Nat.mul_le_mul_right _ c.isLt
  refine (shapeCast_apply _ h' _ (ix2 (⟨c.val * b + i.val, hlt⟩ : Fin R) m) (by
    rw [Shape.rowMajor_val_two, Shape.rowMajor_val_three]; rfl)).trans ?_
  rw [Ideal.matmul_plain_apply, hacc, zero_add]
  refine Finset.sum_congr rfl fun k _ => congrArg (· * _) ?_
  exact shapeCast_apply _ h _ (ix3 c i k) (by rw [Shape.rowMajor_val_two, Shape.rowMajor_val_three]; rfl)

/-- A rank-3 array with one leading row, repeated along the first axis. -/
theorem bcastRow_apply {a b c : ℕ} (x : (⟨3, ![1, b, c]⟩ : Shape).Idx → α) (h : (⟨3, ![1, b, c]⟩ : Shape).Broadcasts ⟨3, ![a, b, c]⟩)
    (hb : b ≠ 1) (hc : c ≠ 1) (i : Fin a) (j : Fin b) (k : Fin c) :
    broadcastTo ⟨3, ![a, b, c]⟩ x h (ix3 i j k) = x (ix3 0 j k) :=
  broadcastTo_apply x h _ _ fun e => match e with
    | ⟨0, _⟩ => rfl
    | ⟨1, _⟩ => (if_neg hb).symm
    | ⟨2, _⟩ => (if_neg hc).symm

/-- One entry per channel, repeated along the two other axes. -/
theorem bcastChan_apply {a b c : ℕ} (x : (⟨3, ![a, 1, 1]⟩ : Shape).Idx → α) (h : (⟨3, ![a, 1, 1]⟩ : Shape).Broadcasts ⟨3, ![a, b, c]⟩)
    (ha : a ≠ 1) (i : Fin a) (j : Fin b) (k : Fin c) :
    broadcastTo ⟨3, ![a, b, c]⟩ x h (ix3 i j k) = x (ix3 i 0 0) :=
  broadcastTo_apply x h _ _ fun e => match e with
    | ⟨0, _⟩ => (if_neg ha).symm
    | ⟨1, _⟩ => rfl
    | ⟨2, _⟩ => rfl

/-- A slice of the last axis. -/
theorem slice_last {a b n N : ℕ} (o : ℕ) (x : (⟨3, ![a, b, N]⟩ : Shape).Idx → α)
    (h : (⟨3, ![a, b, N]⟩ : Shape).Slices ![0, 0, o] ⟨3, ![a, b, n]⟩) (i : Fin a) (j : Fin b) (k : Fin n) (hk : o + k.val < N) :
    extractStridedSlice ⟨3, ![a, b, n]⟩ ![0, 0, o] x h (ix3 i j k) = x (ix3 i j (⟨o + k.val, hk⟩ : Fin N)) :=
  extractStridedSlice_apply _ x h _ _ fun e => match e with
    | ⟨0, _⟩ => (Nat.zero_add _).symm
    | ⟨1, _⟩ => (Nat.zero_add _).symm
    | ⟨2, _⟩ => rfl

/-- A slice of the middle axis. -/
theorem slice_mid {a b n N : ℕ} (o : ℕ) (x : (⟨3, ![a, N, b]⟩ : Shape).Idx → α)
    (h : (⟨3, ![a, N, b]⟩ : Shape).Slices ![0, o, 0] ⟨3, ![a, n, b]⟩) (i : Fin a) (j : Fin n) (k : Fin b) (hj : o + j.val < N) :
    extractStridedSlice ⟨3, ![a, n, b]⟩ ![0, o, 0] x h (ix3 i j k) = x (ix3 i (⟨o + j.val, hj⟩ : Fin N) k) :=
  extractStridedSlice_apply _ x h _ _ fun e => match e with
    | ⟨0, _⟩ => (Nat.zero_add _).symm
    | ⟨1, _⟩ => rfl
    | ⟨2, _⟩ => (Nat.zero_add _).symm

end Cert.Layout
-- ==== Proof.Dft.lean ====
/-
  The discrete Fourier transform of length 2048 = 16 · 128, in real arithmetic.

  The kernel transforms a sequence in two stages: a sum over the 16 coarse positions, a twiddle factor, and a sum over
  the 128 fine positions. Here the two stages are written as real formulas (`fwdRe`, `fwdIm`, `inv`) and the one fact the
  proof needs about them is shown: transforming two sequences, multiplying one transform by the conjugate of the other
  and transforming back is the circular cross-correlation of the two sequences (`inv_corr`).
-/
module

public import Mathlib.Analysis.SpecialFunctions.Trigonometric.Basic
public import Mathlib.Algebra.BigOperators.Fin
public import Mathlib.Algebra.Ring.GeomSum
public import Idealize.ShloMosaic.PureOps.Ideal

@[expose] public section

noncomputable section

namespace Cert.Dft

open Complex

/-! ## The roots of unity -/

/-- `E m = exp (2πi·m/2048)`. -/
def E (m : ℤ) : ℂ := Complex.exp (2 * Real.pi * I / 2048 * m)

/-- The exponent adds. -/
theorem E_add (a b : ℤ) : E (a + b) = E a * E b := by
  unfold E; rw [← Complex.exp_add]; congr 1; push_cast; ring

/-- Multiples of 2048 do not count. -/
theorem E_mul (a : ℤ) : E (2048 * a) = 1 := by
  unfold E
  rw [show 2 * (Real.pi : ℂ) * I / 2048 * ((2048 * a : ℤ) : ℂ) = a * (2 * Real.pi * I) by push_cast; ring]
  exact Complex.exp_int_mul_two_pi_mul_I a

/-- The exponent is read modulo 2048. -/
theorem E_congr {a b : ℤ} (h : ∃ k : ℤ, a = b + 2048 * k) : E a = E b := by
  obtain ⟨k, rfl⟩ := h
  rw [E_add, E_mul, mul_one]

/-- The real and imaginary parts. -/
theorem E_eq (m : ℤ) : E m = ⟨Real.cos (2 * Real.pi * m / 2048), Real.sin (2 * Real.pi * m / 2048)⟩ := by
  unfold E
  rw [show 2 * (Real.pi : ℂ) * I / 2048 * (m : ℂ) = ((2 * Real.pi * m / 2048 : ℝ) : ℂ) * I by push_cast; ring]
  apply Complex.ext
  · rw [Complex.exp_ofReal_mul_I_re]
  · rw [Complex.exp_ofReal_mul_I_im]

/-- Conjugation negates the exponent. -/
theorem conj_E (m : ℤ) : (starRingEnd ℂ) (E m) = E (-m) := by
  rw [E_eq, E_eq]
  apply Complex.ext
  · simp only [Complex.conj_re]
    rw [show 2 * Real.pi * ((-m : ℤ) : ℝ) / 2048 = -(2 * Real.pi * m / 2048) by push_cast; ring, Real.cos_neg]
  · simp only [Complex.conj_im]
    rw [show 2 * Real.pi * ((-m : ℤ) : ℝ) / 2048 = -(2 * Real.pi * m / 2048) by push_cast; ring, Real.sin_neg]

/-- `E m` is a power of `E 1`. -/
theorem E_natMul (f : ℕ) (m : ℤ) : E (f * m) = E m ^ f := by
  unfold E; rw [← Complex.exp_nat_mul]; congr 1; push_cast; ring

/-- `E m = 1` exactly at the multiples of 2048. -/
theorem E_eq_one_iff (m : ℤ) : E m = 1 ↔ (2048 : ℤ) ∣ m := by
  constructor
  · intro h
    unfold E at h
    rw [Complex.exp_eq_one_iff] at h
    obtain ⟨n, hn⟩ := h
    have h2 : (2 * Real.pi * I : ℂ) ≠ 0 := Complex.two_pi_I_ne_zero
    have h3 : (m : ℂ) = 2048 * n := by
      have : (2 * Real.pi * I : ℂ) * (m : ℂ) = (2 * Real.pi * I) * (2048 * n) := by
        have h4 : (2 * Real.pi * I : ℂ) * (m : ℂ) = 2048 * (2 * Real.pi * I / 2048 * m) := by ring
        rw [h4, hn]; ring
      exact mul_left_cancel₀ h2 this
    exact ⟨n, by exact_mod_cast h3⟩
  · rintro ⟨k, rfl⟩; exact E_mul k

/-- Orthogonality: the powers of `E m` over a period sum to 2048 when 2048 divides `m` and to 0 otherwise. -/
theorem sum_E (m : ℤ) : ∑ f : Fin 2048, E (f.val * m) = if (2048 : ℤ) ∣ m then 2048 else 0 := by
  have h : ∑ f : Fin 2048, E (f.val * m) = ∑ f ∈ Finset.range 2048, E m ^ f := by
    rw [← Fin.sum_univ_eq_sum_range (fun f => E m ^ f) 2048]
    exact Finset.sum_congr rfl fun f _ => E_natMul f.val m
  rw [h]
  by_cases hm : (2048 : ℤ) ∣ m
  · rw [if_pos hm, (E_eq_one_iff m).2 hm]; simp
  · rw [if_neg hm]
    have h1 : E m ≠ 1 := fun h' => hm ((E_eq_one_iff m).1 h')
    rw [geom_sum_eq h1, ← E_natMul, show ((2048 : ℕ) : ℤ) * m = 2048 * m by norm_num, E_mul, sub_self, zero_div]

/-- A sum over frequencies `f1 + 16·f2`, as one sum over 2048 frequencies. -/
theorem sum_freq (g : ℕ → ℂ) : ∑ f1 : Fin 16, ∑ f2 : Fin 128, g (f1.val + 16 * f2.val) = ∑ f : Fin 2048, g f.val := by
  rw [Finset.sum_comm, ← Fintype.sum_prod_type', ← Equiv.sum_comp (finProdFinEquiv (m := 128) (n := 16)) (fun f : Fin (128 * 16) => g f.val)]
  rfl

/-! ## The two stages, in real arithmetic -/

/-- `cos (2π·m/N)`. -/
def cosT (N m : ℕ) : ℝ := Real.cos (2 * Real.pi * m / N)
/-- `sin (2π·m/N)`. -/
def sinT (N m : ℕ) : ℝ := Real.sin (2 * Real.pi * m / N)

/-- A table entry with the angle's factor reduced modulo `N` is the same number: the angle differs by whole turns. -/
theorem cosT_mod (N m : ℕ) (hN : 0 < N) : Real.cos (((m % N : ℕ) : ℝ) * (2 * Real.pi / N)) = cosT N m := by
  have hN' : (N : ℝ) ≠ 0 := by exact_mod_cast hN.ne'
  have h : (m : ℝ) = (m % N : ℕ) + N * (m / N : ℕ) := by exact_mod_cast (Nat.mod_add_div m N).symm
  unfold cosT
  rw [h, show 2 * Real.pi * (((m % N : ℕ) : ℝ) + N * (m / N : ℕ)) / N
    = ((m % N : ℕ) : ℝ) * (2 * Real.pi / N) + (m / N : ℕ) * (2 * Real.pi) by field_simp]
  rw [Real.cos_add_nat_mul_two_pi]

/-- The same for the sine. -/
theorem sinT_mod (N m : ℕ) (hN : 0 < N) : Real.sin (((m % N : ℕ) : ℝ) * (2 * Real.pi / N)) = sinT N m := by
  have hN' : (N : ℝ) ≠ 0 := by exact_mod_cast hN.ne'
  have h : (m : ℝ) = (m % N : ℕ) + N * (m / N : ℕ) := by exact_mod_cast (Nat.mod_add_div m N).symm
  unfold sinT
  rw [h, show 2 * Real.pi * (((m % N : ℕ) : ℝ) + N * (m / N : ℕ)) / N
    = ((m % N : ℕ) : ℝ) * (2 * Real.pi / N) + (m / N : ℕ) * (2 * Real.pi) by field_simp]
  rw [Real.sin_add_nat_mul_two_pi]

/-- The factor of angle `2π·m/N` for a divisor `N` of 2048 is a root of order 2048. -/
theorem E_pos (N k m : ℕ) (hN : N * k = 2048) : E (k * m) = ⟨cosT N m, sinT N m⟩ := by
  have hN0 : (N : ℝ) ≠ 0 := by
    intro h; have : N = 0 := by exact_mod_cast h
    subst this; omega
  have hk0 : (k : ℝ) ≠ 0 := by
    intro h; have : k = 0 := by exact_mod_cast h
    subst this; omega
  have h : 2 * Real.pi * ((((k : ℤ) * (m : ℤ)) : ℤ) : ℝ) / 2048 = 2 * Real.pi * m / N := by
    have : (2048 : ℝ) = N * k := by exact_mod_cast hN.symm
    rw [this]; push_cast; field_simp
  rw [E_eq, h]; rfl

/-- Its conjugate. -/
theorem E_negT (N k m : ℕ) (hN : N * k = 2048) : E (-(k * m)) = ⟨cosT N m, -sinT N m⟩ := by
  rw [← conj_E, E_pos N k m hN]; rfl

/-- The first stage, real part. -/
def aRe (x : Fin 16 → Fin 128 → ℝ) (f1 : Fin 16) (n2 : Fin 128) : ℝ := ∑ n1 : Fin 16, x n1 n2 * cosT 16 (n1.val * f1.val)
/-- The first stage, imaginary part. -/
def aIm (x : Fin 16 → Fin 128 → ℝ) (f1 : Fin 16) (n2 : Fin 128) : ℝ := ∑ n1 : Fin 16, x n1 n2 * -sinT 16 (n1.val * f1.val)
/-- The twiddled first stage, real part. -/
def bRe (x : Fin 16 → Fin 128 → ℝ) (f1 : Fin 16) (n2 : Fin 128) : ℝ :=
  aRe x f1 n2 * cosT 2048 (n2.val * f1.val) + aIm x f1 n2 * sinT 2048 (n2.val * f1.val)
/-- The twiddled first stage, imaginary part. -/
def bIm (x : Fin 16 → Fin 128 → ℝ) (f1 : Fin 16) (n2 : Fin 128) : ℝ :=
  aIm x f1 n2 * cosT 2048 (n2.val * f1.val) - aRe x f1 n2 * sinT 2048 (n2.val * f1.val)
/-- The transform, real part. -/
def fwdRe (x : Fin 16 → Fin 128 → ℝ) (f1 : Fin 16) (f2 : Fin 128) : ℝ :=
  ∑ n2 : Fin 128, (bRe x f1 n2 * cosT 128 (n2.val * f2.val) + bIm x f1 n2 * sinT 128 (n2.val * f2.val))
/-- The transform, imaginary part. -/
def fwdIm (x : Fin 16 → Fin 128 → ℝ) (f1 : Fin 16) (f2 : Fin 128) : ℝ :=
  ∑ n2 : Fin 128, (bRe x f1 n2 * -sinT 128 (n2.val * f2.val) + bIm x f1 n2 * cosT 128 (n2.val * f2.val))

/-- The inverse's first stage, real part. -/
def gRe (zr zi : Fin 16 → Fin 128 → ℝ) (f1 : Fin 16) (n2 : Fin 128) : ℝ :=
  ∑ f2 : Fin 128, (zr f1 f2 * cosT 128 (f2.val * n2.val) + zi f1 f2 * -sinT 128 (f2.val * n2.val))
/-- The inverse's first stage, imaginary part. -/
def gIm (zr zi : Fin 16 → Fin 128 → ℝ) (f1 : Fin 16) (n2 : Fin 128) : ℝ :=
  ∑ f2 : Fin 128, (zr f1 f2 * sinT 128 (f2.val * n2.val) + zi f1 f2 * cosT 128 (f2.val * n2.val))
/-- The twiddled inverse, real part. -/
def hRe (zr zi : Fin 16 → Fin 128 → ℝ) (f1 : Fin 16) (n2 : Fin 128) : ℝ :=
  gRe zr zi f1 n2 * cosT 2048 (n2.val * f1.val) - gIm zr zi f1 n2 * sinT 2048 (n2.val * f1.val)
/-- The twiddled inverse, imaginary part. -/
def hIm (zr zi : Fin 16 → Fin 128 → ℝ) (f1 : Fin 16) (n2 : Fin 128) : ℝ :=
  gRe zr zi f1 n2 * sinT 2048 (n2.val * f1.val) + gIm zr zi f1 n2 * cosT 2048 (n2.val * f1.val)
/-- The real part of the inverse transform, over 2048. -/
def inv (zr zi : Fin 16 → Fin 128 → ℝ) (n1 : Fin 16) (n2 : Fin 128) : ℝ :=
  ∑ f1 : Fin 16, (hRe zr zi f1 n2 * (cosT 16 (f1.val * n1.val) / 2048) + hIm zr zi f1 n2 * (-sinT 16 (f1.val * n1.val) / 2048))

/-! ## The stages as one complex sum -/

/-- The transform as one complex sum over all 2048 positions. -/
theorem fwd_eq (x : Fin 16 → Fin 128 → ℝ) (f1 : Fin 16) (f2 : Fin 128) :
    (⟨fwdRe x f1 f2, fwdIm x f1 f2⟩ : ℂ)
      = ∑ n2 : Fin 128, ∑ n1 : Fin 16, (x n1 n2 : ℂ) * E (-((128 * n1.val + n2.val : ℕ) * (f1.val + 16 * f2.val : ℕ))) := by
  have hA : ∀ n2 : Fin 128, (⟨aRe x f1 n2, aIm x f1 n2⟩ : ℂ) = ∑ n1 : Fin 16, (x n1 n2 : ℂ) * E (-((128 : ℕ) * (n1.val * f1.val : ℕ))) := by
    intro n2
    apply Complex.ext
    · rw [Complex.re_sum]; unfold aRe; dsimp only
      refine Finset.sum_congr rfl fun n1 _ => ?_
      rw [E_negT 16 128 _ rfl]; simp
    · rw [Complex.im_sum]; unfold aIm; dsimp only
      refine Finset.sum_congr rfl fun n1 _ => ?_
      rw [E_negT 16 128 _ rfl]; simp
  have hB : ∀ n2 : Fin 128, (⟨bRe x f1 n2, bIm x f1 n2⟩ : ℂ)
      = (⟨aRe x f1 n2, aIm x f1 n2⟩ : ℂ) * E (-((1 : ℕ) * (n2.val * f1.val : ℕ))) := by
    intro n2
    rw [E_negT 2048 1 _ rfl]
    apply Complex.ext
    · simp [bRe]
    · simp [bIm]; ring
  have hX : (⟨fwdRe x f1 f2, fwdIm x f1 f2⟩ : ℂ)
      = ∑ n2 : Fin 128, (⟨bRe x f1 n2, bIm x f1 n2⟩ : ℂ) * E (-((16 : ℕ) * (n2.val * f2.val : ℕ))) := by
    apply Complex.ext
    · rw [Complex.re_sum]; unfold fwdRe; dsimp only
      refine Finset.sum_congr rfl fun n2 _ => ?_
      rw [E_negT 128 16 _ rfl]; simp
    · rw [Complex.im_sum]; unfold fwdIm; dsimp only
      refine Finset.sum_congr rfl fun n2 _ => ?_
      rw [E_negT 128 16 _ rfl]; simp
  rw [hX]
  refine Finset.sum_congr rfl fun n2 _ => ?_
  rw [hB, hA, Finset.sum_mul, Finset.sum_mul]
  refine Finset.sum_congr rfl fun n1 _ => ?_
  rw [mul_assoc, mul_assoc, ← E_add, ← E_add]
  congr 1
  refine E_congr ⟨n1.val * f2.val, ?_⟩
  push_cast; ring

/-- The inverse as the real part of one complex sum over all 2048 frequencies. -/
theorem inv_eq (zr zi : Fin 16 → Fin 128 → ℝ) (n1 : Fin 16) (n2 : Fin 128) :
    inv zr zi n1 n2
      = (∑ f1 : Fin 16, ∑ f2 : Fin 128, (⟨zr f1 f2, zi f1 f2⟩ : ℂ) * E ((128 * n1.val + n2.val : ℕ) * (f1.val + 16 * f2.val : ℕ))).re / 2048 := by
  have hG : ∀ f1 : Fin 16, (⟨gRe zr zi f1 n2, gIm zr zi f1 n2⟩ : ℂ)
      = ∑ f2 : Fin 128, (⟨zr f1 f2, zi f1 f2⟩ : ℂ) * E ((16 : ℕ) * (f2.val * n2.val : ℕ)) := by
    intro f1
    apply Complex.ext
    · rw [Complex.re_sum]; unfold gRe; dsimp only
      refine Finset.sum_congr rfl fun f2 _ => ?_
      rw [E_pos 128 16 _ rfl]; simp [sub_eq_add_neg]
    · rw [Complex.im_sum]; unfold gIm; dsimp only
      refine Finset.sum_congr rfl fun f2 _ => ?_
      rw [E_pos 128 16 _ rfl]; simp
  have hH : ∀ f1 : Fin 16, (⟨hRe zr zi f1 n2, hIm zr zi f1 n2⟩ : ℂ)
      = (⟨gRe zr zi f1 n2, gIm zr zi f1 n2⟩ : ℂ) * E ((1 : ℕ) * (n2.val * f1.val : ℕ)) := by
    intro f1
    rw [E_pos 2048 1 _ rfl]
    apply Complex.ext
    · simp [hRe]
    · simp [hIm]
  have hI : inv zr zi n1 n2
      = (∑ f1 : Fin 16, (⟨hRe zr zi f1 n2, hIm zr zi f1 n2⟩ : ℂ) * E ((128 : ℕ) * (f1.val * n1.val : ℕ))).re / 2048 := by
    rw [Complex.re_sum, Finset.sum_div]; unfold inv
    refine Finset.sum_congr rfl fun f1 _ => ?_
    rw [E_pos 16 128 _ rfl]; simp only [Complex.mul_re]; ring
  rw [hI]
  congr 2
  refine Finset.sum_congr rfl fun f1 _ => ?_
  rw [hH, hG, Finset.sum_mul, Finset.sum_mul]
  refine Finset.sum_congr rfl fun f2 _ => ?_
  rw [mul_assoc, mul_assoc, ← E_add, ← E_add]
  congr 1
  refine (E_congr ⟨n1.val * f2.val, ?_⟩).symm
  push_cast; ring

/-! ## The correlation theorem -/

/-- Position `t` of a sequence laid out as 16 rows of 128. -/
def at16 (x : Fin 16 → Fin 128 → ℝ) (t : Fin 2048) : ℝ := x ⟨t.val / 128, by omega⟩ ⟨t.val % 128, by omega⟩

/-- A sum over rows and columns as a sum over positions. -/
theorem sum_pos (g : Fin 16 → Fin 128 → ℂ) :
    ∑ n2 : Fin 128, ∑ n1 : Fin 16, g n1 n2 = ∑ t : Fin 2048, g ⟨t.val / 128, by omega⟩ ⟨t.val % 128, by omega⟩ := by
  rw [Finset.sum_comm, ← Fintype.sum_prod_type']
  refine (Equiv.sum_comp (finProdFinEquiv (m := 16) (n := 128)).symm (fun p : Fin 16 × Fin 128 => g p.1 p.2)).symm.trans ?_
  rfl

/-- The transform over positions. -/
theorem fwd_at (x : Fin 16 → Fin 128 → ℝ) (f1 : Fin 16) (f2 : Fin 128) :
    (⟨fwdRe x f1 f2, fwdIm x f1 f2⟩ : ℂ) = ∑ t : Fin 2048, (at16 x t : ℂ) * E (-(t.val * (f1.val + 16 * f2.val : ℕ))) := by
  rw [fwd_eq, sum_pos fun n1 n2 => (x n1 n2 : ℂ) * E (-((128 * n1.val + n2.val : ℕ) * (f1.val + 16 * f2.val : ℕ)))]
  refine Finset.sum_congr rfl fun t _ => ?_
  dsimp only [at16]
  rw [Nat.div_add_mod]

/-- The only position congruent to `u + n` is `(u + n) mod 2048`. -/
theorem pick (x : Fin 2048 → ℂ) (u n : Fin 2048) :
    ∑ t : Fin 2048, x t * (if (2048 : ℤ) ∣ (n.val : ℤ) + u.val - t.val then (2048 : ℂ) else 0)
      = 2048 * x ⟨(u.val + n.val) % 2048, Nat.mod_lt _ (by norm_num)⟩ := by
  rw [Finset.sum_eq_single (⟨(u.val + n.val) % 2048, Nat.mod_lt _ (by norm_num)⟩ : Fin 2048)]
  · rw [if_pos (by dsimp only; omega), mul_comm]
  · intro t _ ht
    rw [if_neg, mul_zero]
    intro hd
    apply ht
    apply Fin.ext
    dsimp only
    have := t.isLt
    omega
  · intro h; exact absurd (Finset.mem_univ _) h

/-- **The correlation theorem**: transforming `x` and `y`, multiplying the first transform by the conjugate of the second
    and transforming back gives, at position `n`, the sum over `u` of `x` at `(u + n) mod 2048` times `y` at `u`. -/
theorem inv_corr (x y : Fin 16 → Fin 128 → ℝ) (n : Fin 2048) :
    at16 (inv (fun f1 f2 => fwdRe x f1 f2 * fwdRe y f1 f2 + fwdIm x f1 f2 * fwdIm y f1 f2)
        (fun f1 f2 => fwdIm x f1 f2 * fwdRe y f1 f2 - fwdRe x f1 f2 * fwdIm y f1 f2)) n
      = ∑ u : Fin 2048, at16 x ⟨(u.val + n.val) % 2048, Nat.mod_lt _ (by norm_num)⟩ * at16 y u := by
  have hz : ∀ (f1 : Fin 16) (f2 : Fin 128),
      (⟨fwdRe x f1 f2 * fwdRe y f1 f2 + fwdIm x f1 f2 * fwdIm y f1 f2, fwdIm x f1 f2 * fwdRe y f1 f2 - fwdRe x f1 f2 * fwdIm y f1 f2⟩ : ℂ)
        = (∑ t : Fin 2048, (at16 x t : ℂ) * E (-(t.val * (f1.val + 16 * f2.val : ℕ))))
          * ∑ u : Fin 2048, (at16 y u : ℂ) * E (u.val * (f1.val + 16 * f2.val : ℕ)) := by
    intro f1 f2
    have hc : ∑ u : Fin 2048, (at16 y u : ℂ) * E (u.val * (f1.val + 16 * f2.val : ℕ))
        = (starRingEnd ℂ) (⟨fwdRe y f1 f2, fwdIm y f1 f2⟩ : ℂ) := by
      rw [fwd_at, map_sum]
      refine Finset.sum_congr rfl fun u _ => ?_
      rw [map_mul, conj_E, Complex.conj_ofReal, neg_neg]
    rw [hc, ← fwd_at]
    apply Complex.ext
    · simp
    · simp; ring
  unfold at16
  rw [inv_eq]
  dsimp only
  rw [Nat.div_add_mod]
  simp only [hz]
  rw [sum_freq fun f => (∑ t : Fin 2048, (at16 x t : ℂ) * E (-(t.val * (f : ℤ)))) * (∑ u : Fin 2048, (at16 y u : ℂ) * E (u.val * (f : ℤ)))
      * E (n.val * (f : ℤ))]
  have hs : ∑ f : Fin 2048, (∑ t : Fin 2048, (at16 x t : ℂ) * E (-(t.val * (f.val : ℤ)))) * (∑ u : Fin 2048, (at16 y u : ℂ) * E (u.val * (f.val : ℤ)))
      * E (n.val * (f.val : ℤ))
      = ∑ u : Fin 2048, (at16 y u : ℂ) * ∑ t : Fin 2048, (at16 x t : ℂ) * (if (2048 : ℤ) ∣ (n.val : ℤ) + u.val - t.val then (2048 : ℂ) else 0) := by
    simp only [Finset.sum_mul, Finset.mul_sum]
    rw [Finset.sum_comm]
    refine Finset.sum_congr rfl fun u _ => ?_
    rw [Finset.sum_comm]
    refine Finset.sum_congr rfl fun t _ => ?_
    rw [← sum_E, Finset.mul_sum, Finset.mul_sum]
    refine Finset.sum_congr rfl fun f _ => ?_
    rw [show (f.val : ℤ) * ((n.val : ℤ) + u.val - t.val) = -(t.val * (f.val : ℤ)) + (u.val * (f.val : ℤ)) + n.val * (f.val : ℤ) by ring,
      E_add, E_add]
    ring
  rw [hs]
  simp only [pick]
  rw [Complex.re_sum, Finset.sum_div]
  refine Finset.sum_congr rfl fun u _ => ?_
  simp only [at16]
  rw [show ∀ a b : ℝ, ((b : ℂ) * (2048 * (a : ℂ))).re / 2048 = a * b from fun a b => by
    rw [show ((b : ℂ) * (2048 * (a : ℂ))) = ((b * (2048 * a) : ℝ) : ℂ) by push_cast; rfl, Complex.ofReal_re]; ring]

end Cert.Dft

end
-- ==== Proof.Stages.lean ====
/-
  The stages of the kernel's transforms on one block of 128 channels, each read at an index in exact arithmetic.

  A block is a 128 × 16 × 128 array: a channel, the coarse and the fine part of a position. The stages are named here once
  (`coarse3`, `twRe`, `fine3`, …, with a `3` where the kernel splits its operands into a high and a low part) and read as
  finite real sums. In exact arithmetic the low part is zero, so both kinds of stage compute the same sum.
-/
module

public import proofs.«01_k».proof.Proof.Gen.KernelIdeal
public import proofs.«01_k».proof.Proof.Layout
public import proofs.«01_k».proof.Proof.Dft

@[expose] public section

set_option synthInstance.maxSize 4096

noncomputable section

namespace Cert.Stages

open Idealize.ShloMosaic Idealize.ShloMosaic.ValueIdx Cert.KernelIdeal Cert.KernelIdeal.Gen Cert.Layout

/-- The block `x` holds the real numbers `r`. -/
def Holds {φ : FTy} (x : FVec Ideal S128x16x128 φ) (r : Fin 128 → Fin 16 → Fin 128 → ℝ) : Prop :=
  ∀ c i j, x (ix3 c i j) = ((r c i j : ℝ) : EReal)

/-- The high part of a block: its rounding to the narrow format. -/
def hi (x : FVec Ideal S128x16x128 .f32) : FVec Ideal S128x16x128 .bf16 := truncf .bf16 x bitsLt_bf16_f32

/-- The low part of a block: what the rounding lost, rounded. -/
def lo (x : FVec Ideal S128x16x128 .f32) : FVec Ideal S128x16x128 .bf16 :=
  truncf .bf16 (subf x (extf .f32 (truncf .bf16 x bitsLt_bf16_f32) bitsLt_bf16_f32)) bitsLt_bf16_f32

/-- In exact arithmetic the high part is the block. -/
theorem hi_holds {x : FVec Ideal S128x16x128 .f32} {r} (h : Holds x r) : Holds (hi x) r := h

/-- In exact arithmetic the low part of real entries is zero. -/
theorem lo_apply {x : FVec Ideal S128x16x128 .f32} {r} (h : Holds x r) (c : Fin 128) (i : Fin 16) (j : Fin 128) :
    lo x (ix3 c i j) = 0 := by
  show (x (ix3 c i j) : EReal) - x (ix3 c i j) = 0
  rw [h c i j, ← EReal.coe_sub, sub_self, EReal.coe_zero]

/-! ## The first stage: a product along the coarse positions -/

/-- The first stage, operands split in high and low parts. -/
def coarse3 (w : FVec Ideal S48x32 .bf16) (x : FVec Ideal S128x16x128 .f32) : FVec Ideal S128x32x128 .f32 :=
  transpose S128x32x128 [0, 2, 1] (shapeCast S128x128x32
    (matmul dot_S16384x48_S48x32_S16384x32_1_0_0_1_n_n none
      (shapeCast S16384x48 (concatenate S128x128x48 2
        [⟨S128x128x16, transpose S128x128x16 [0, 2, 1] (hi x) transposes_S128x16x128_p0_2_1_S128x128x16⟩,
          ⟨S128x128x16, transpose S128x128x16 [0, 2, 1] (hi x) transposes_S128x16x128_p0_2_1_S128x128x16⟩,
          ⟨S128x128x16, transpose S128x128x16 [0, 2, 1] (lo x) transposes_S128x16x128_p0_2_1_S128x128x16⟩]
        concatenates_S128x128x16_S128x128x16_S128x128x16_S128x128x48_d2) shapeCasts_S128x128x48_S16384x48)
      w (constant S16384x32 .f32 0x00000000#32))
    shapeCasts_S16384x32_S128x128x32) transposes_S128x128x32_p0_2_1_S128x32x128

/-- The first stage, operands rounded once. -/
def coarse1 (w : FVec Ideal S16x32 .bf16) (x : FVec Ideal S128x16x128 .f32) : FVec Ideal S128x32x128 .f32 :=
  transpose S128x32x128 [0, 2, 1] (shapeCast S128x128x32
    (matmul dot_S16384x16_S16x32_S16384x32_1_0_0_1_n_n none
      (shapeCast S16384x16 (transpose S128x128x16 [0, 2, 1] (hi x) transposes_S128x16x128_p0_2_1_S128x128x16)
        shapeCasts_S128x128x16_S16384x16)
      w (constant S16384x32 .f32 0x00000000#32))
    shapeCasts_S16384x32_S128x128x32) transposes_S128x128x32_p0_2_1_S128x32x128

/-- A table of `K` rows in three parts: the values, their low parts (zero in exact arithmetic), and a third part that only ever
    meets a low part. -/
def Is3 {K N M : ℕ} (h : N = 3 * K) (w : FVec Ideal ⟨2, ![N, M]⟩ .bf16) (W : Fin K → Fin M → ℝ) : Prop :=
  (∀ (k : Fin K) (m : Fin M), w (ix2 (⟨k.val + K * 0, by omega⟩ : Fin N) m) = ((W k m : ℝ) : EReal))
    ∧ ∀ (k : Fin K) (m : Fin M), w (ix2 (⟨k.val + K * 1, by omega⟩ : Fin N) m) = (0 : EReal)

/-- The zero that a product starts from. -/
theorem zero_acc {S : Shape} (r : S.Idx) : (constant S .f32 0x00000000#32 : FVec Ideal S .f32) r = 0 := by
  show Ideal.ofBits .f32 0x00000000#32 = 0
  simp [Ideal.ofBits, Ideal.ieee]

theorem coarse3_apply {w : FVec Ideal S48x32 .bf16} {W : Fin 16 → Fin 32 → ℝ} (hw : Is3 (K := 16) rfl w W)
    {x : FVec Ideal S128x16x128 .f32} {r} (hx : Holds x r) (c : Fin 128) (m : Fin 32) (j : Fin 128) :
    coarse3 w x (ix3 c m j) = ((∑ k : Fin 16, r c k j * W k m : ℝ) : EReal) := by
  unfold coarse3
  rw [swap_apply]
  refine (mat_apply (a := 128) (b := 128) (R := 16384) (K := 48) (M := 32) rfl _ w _ zero_acc _ _ none c j m).trans ?_
  rw [sum_blocks 3 16 rfl, Fin.sum_univ_three, ← coe_sum]
  have e0 (q : Fin 16) := concat_last [transpose S128x128x16 [0, 2, 1] (hi x) transposes_S128x16x128_p0_2_1_S128x128x16,
      transpose S128x128x16 [0, 2, 1] (hi x) transposes_S128x16x128_p0_2_1_S128x128x16,
      transpose S128x128x16 [0, 2, 1] (lo x) transposes_S128x16x128_p0_2_1_S128x128x16]
    concatenates_S128x128x16_S128x128x16_S128x128x16_S128x128x48_d2 c j
  have h0 (q : Fin 16) := (e0 q 0 (by simp) q (by omega)).trans ((swap_apply _ _ c j q).trans (hi_holds hx c q j))
  have h1 (q : Fin 16) := (e0 q 1 (by simp) q (by omega)).trans ((swap_apply _ _ c j q).trans (hi_holds hx c q j))
  have h2 (q : Fin 16) := (e0 q 2 (by simp) q (by omega)).trans ((swap_apply _ _ c j q).trans (lo_apply hx c q j))
  have z1 : ∀ s : Fin 16 → EReal, (∀ q, s q = 0) → ∑ q, s q = 0 := fun s hs => Finset.sum_eq_zero fun q _ => hs q
  refine (congrArg₂ (· + ·) (congrArg₂ (· + ·) (Finset.sum_congr rfl fun q _ => congrArg₂ (· * ·) (h0 q) (hw.1 q m))
    (z1 _ fun q => ?_)) (z1 _ fun q => ?_)).trans ?_
  · exact (congrArg₂ (· * ·) (h1 q) (hw.2 q m)).trans (mul_zero _)
  · exact (congrArg (· * _) (h2 q)).trans (zero_mul _)
  · rw [add_zero, add_zero]
    exact Finset.sum_congr rfl fun q _ => (EReal.coe_mul _ _).symm

theorem coarse1_apply {w : FVec Ideal S16x32 .bf16} {W : Fin 16 → Fin 32 → ℝ} (hw : ∀ k m, w (ix2 k m) = ((W k m : ℝ) : EReal))
    {x : FVec Ideal S128x16x128 .f32} {r} (hx : Holds x r) (c : Fin 128) (m : Fin 32) (j : Fin 128) :
    coarse1 w x (ix3 c m j) = ((∑ k : Fin 16, r c k j * W k m : ℝ) : EReal) := by
  unfold coarse1
  rw [swap_apply]
  refine (mat_apply (a := 128) (b := 128) (R := 16384) (K := 16) (M := 32) rfl _ w _ zero_acc _ _ none c j m).trans ?_
  rw [← coe_sum]
  refine Finset.sum_congr rfl fun q _ => ?_
  rw [swap_apply, hw, EReal.coe_mul]
  exact congrArg (· * _) (hi_holds hx c q j)

/-! ## The twiddle factors -/

/-- The real part after the twiddle factor of the forward transform. -/
def twRe (tc ts : FVec Ideal S1x16x128 .f32) (u : FVec Ideal S128x32x128 .f32) : FVec Ideal S128x16x128 .f32 :=
  addf (mulf (extractStridedSlice S128x16x128 ![0, 0, 0] u slices_S128x32x128_o0_0_0_S128x16x128)
      (broadcastTo S128x16x128 tc broadcasts_S1x16x128_S128x16x128))
    (mulf (extractStridedSlice S128x16x128 ![0, 16, 0] u slices_S128x32x128_o0_16_0_S128x16x128)
      (broadcastTo S128x16x128 ts broadcasts_S1x16x128_S128x16x128))

/-- The imaginary part after the twiddle factor of the forward transform. -/
def twIm (tc ts : FVec Ideal S1x16x128 .f32) (u : FVec Ideal S128x32x128 .f32) : FVec Ideal S128x16x128 .f32 :=
  subf (mulf (extractStridedSlice S128x16x128 ![0, 16, 0] u slices_S128x32x128_o0_16_0_S128x16x128)
      (broadcastTo S128x16x128 tc broadcasts_S1x16x128_S128x16x128))
    (mulf (extractStridedSlice S128x16x128 ![0, 0, 0] u slices_S128x32x128_o0_0_0_S128x16x128)
      (broadcastTo S128x16x128 ts broadcasts_S1x16x128_S128x16x128))

/-- A twiddle table holds the real numbers `T`. -/
def IsTw (t : FVec Ideal S1x16x128 .f32) (T : Fin 16 → Fin 128 → ℝ) : Prop := ∀ i j, t (ix3 0 i j) = ((T i j : ℝ) : EReal)

variable {tc ts : FVec Ideal S1x16x128 .f32} {TC TS : Fin 16 → Fin 128 → ℝ}

theorem twRe_holds (hc : IsTw tc TC) (hs : IsTw ts TS) {u : FVec Ideal S128x32x128 .f32} {U : Fin 128 → Fin 32 → Fin 128 → ℝ}
    (hu : ∀ c m j, u (ix3 c m j) = ((U c m j : ℝ) : EReal)) :
    Holds (twRe tc ts u) fun c i j => U c ⟨0 + i.val, by omega⟩ j * TC i j + U c ⟨16 + i.val, by omega⟩ j * TS i j := by
  intro c i j
  unfold twRe
  rw [addf_apply, mulf_apply, mulf_apply]
  rw [slice_mid 0 u _ c i j (by omega), slice_mid 16 u _ c i j (by omega), bcastRow_apply _ _ (by decide) (by decide),
    bcastRow_apply _ _ (by decide) (by decide), hu, hu, hc, hs, EReal.coe_add, EReal.coe_mul, EReal.coe_mul]

theorem twIm_holds (hc : IsTw tc TC) (hs : IsTw ts TS) {u : FVec Ideal S128x32x128 .f32} {U : Fin 128 → Fin 32 → Fin 128 → ℝ}
    (hu : ∀ c m j, u (ix3 c m j) = ((U c m j : ℝ) : EReal)) :
    Holds (twIm tc ts u) fun c i j => U c ⟨16 + i.val, by omega⟩ j * TC i j - U c ⟨0 + i.val, by omega⟩ j * TS i j := by
  intro c i j
  unfold twIm
  rw [subf_apply, mulf_apply, mulf_apply]
  rw [slice_mid 0 u _ c i j (by omega), slice_mid 16 u _ c i j (by omega), bcastRow_apply _ _ (by decide) (by decide),
    bcastRow_apply _ _ (by decide) (by decide), hu, hu, hc, hs, EReal.coe_sub, EReal.coe_mul, EReal.coe_mul]

/-! ## The second stage: a product along the fine positions, real and imaginary parts side by side -/

/-- The second stage, operands split in high and low parts. -/
def fine3 (w : FVec Ideal S768x256 .bf16) (re im : FVec Ideal S128x16x128 .f32) : FVec Ideal S128x16x256 .f32 :=
  shapeCast S128x16x256 (matmul dot_S2048x768_S768x256_S2048x256_1_0_0_1_n_n none
    (shapeCast S2048x768 (concatenate S128x16x768 2
      [⟨S128x16x128, hi re⟩, ⟨S128x16x128, hi im⟩, ⟨S128x16x128, hi re⟩, ⟨S128x16x128, hi im⟩, ⟨S128x16x128, lo re⟩,
        ⟨S128x16x128, lo im⟩]
      concatenates_S128x16x128_S128x16x128_S128x16x128_S128x16x128_S128x16x128_S128x16x128_S128x16x768_d2)
      shapeCasts_S128x16x768_S2048x768)
    w (constant S2048x256 .f32 0x00000000#32)) shapeCasts_S2048x256_S128x16x256

/-- The second stage, operands rounded once. -/
def fine1 (w : FVec Ideal S256x256 .bf16) (re im : FVec Ideal S128x16x128 .f32) : FVec Ideal S128x16x256 .f32 :=
  shapeCast S128x16x256 (matmul dot_S2048x256_S256x256_S2048x256_1_0_0_1_n_n none
    (shapeCast S2048x256 (concatenate S128x16x256 2 [⟨S128x16x128, hi re⟩, ⟨S128x16x128, hi im⟩]
      concatenates_S128x16x128_S128x16x128_S128x16x256_d2) shapeCasts_S128x16x256_S2048x256)
    w (constant S2048x256 .f32 0x00000000#32)) shapeCasts_S2048x256_S128x16x256

variable {re im : FVec Ideal S128x16x128 .f32} {R I : Fin 128 → Fin 16 → Fin 128 → ℝ}

theorem fine3_apply {w : FVec Ideal S768x256 .bf16} {W : Fin 256 → Fin 256 → ℝ} (hw : Is3 (K := 256) rfl w W)
    (hre : Holds re R) (him : Holds im I) (c : Fin 128) (i : Fin 16) (m : Fin 256) :
    fine3 w re im (ix3 c i m)
      = ((∑ k : Fin 128, (R c i k * W ⟨k.val + 128 * 0, by omega⟩ m + I c i k * W ⟨k.val + 128 * 1, by omega⟩ m) : ℝ) : EReal) := by
  unfold fine3
  refine (mat_apply (a := 128) (b := 16) (R := 2048) (K := 768) (M := 256) rfl _ w _ zero_acc _ _ none c i m).trans ?_
  rw [sum_blocks 6 128 rfl, Fin.sum_univ_six, Finset.sum_add_distrib, EReal.coe_add, ← coe_sum, ← coe_sum]
  have e0 (q : Fin 128) := concat_last [hi re, hi im, hi re, hi im, lo re, lo im]
    concatenates_S128x16x128_S128x16x128_S128x16x128_S128x16x128_S128x16x128_S128x16x128_S128x16x768_d2 c i
  have h0 (q : Fin 128) := (e0 q 0 (by simp) q (by omega)).trans (hi_holds hre c i q)
  have h1 (q : Fin 128) := (e0 q 1 (by simp) q (by omega)).trans (hi_holds him c i q)
  have h2 (q : Fin 128) := (e0 q 2 (by simp) q (by omega)).trans (hi_holds hre c i q)
  have h3 (q : Fin 128) := (e0 q 3 (by simp) q (by omega)).trans (hi_holds him c i q)
  have h4 (q : Fin 128) := (e0 q 4 (by simp) q (by omega)).trans (lo_apply hre c i q)
  have h5 (q : Fin 128) := (e0 q 5 (by simp) q (by omega)).trans (lo_apply him c i q)
  have w2 (q : Fin 128) : w (ix2 (⟨q.val + 128 * 2, by omega⟩ : Fin 768) m) = (0 : EReal) :=
    (congrArg (fun a => w (ix2 a m)) (Fin.ext (by show q.val + 128 * 2 = q.val + 256 * 1; omega))).trans
      (hw.2 ⟨q.val, by omega⟩ m)
  have w3 (q : Fin 128) : w (ix2 (⟨q.val + 128 * 3, by omega⟩ : Fin 768) m) = (0 : EReal) :=
    (congrArg (fun a => w (ix2 a m)) (Fin.ext (by show q.val + 128 * 3 = (q.val + 128) + 256 * 1; omega))).trans
      (hw.2 ⟨q.val + 128, by omega⟩ m)
  have z1 : ∀ s : Fin 128 → EReal, (∀ q, s q = 0) → ∑ q, s q = 0 := fun s hs => Finset.sum_eq_zero fun q _ => hs q
  refine (congrArg₂ (· + ·) (congrArg₂ (· + ·) (congrArg₂ (· + ·) (congrArg₂ (· + ·) (congrArg₂ (· + ·)
    (Finset.sum_congr rfl fun q _ => (congrArg₂ (· * ·) (h0 q) (hw.1 ⟨q.val + 128 * 0, by omega⟩ m)).trans (EReal.coe_mul _ _).symm)
    (Finset.sum_congr rfl fun q _ => (congrArg₂ (· * ·) (h1 q) (hw.1 ⟨q.val + 128 * 1, by omega⟩ m)).trans (EReal.coe_mul _ _).symm))
    (z1 _ fun q => ?_)) (z1 _ fun q => ?_)) (z1 _ fun q => ?_)) (z1 _ fun q => ?_)).trans ?_
  · exact (congrArg₂ (· * ·) (h2 q) (w2 q)).trans (mul_zero _)
  · exact (congrArg₂ (· * ·) (h3 q) (w3 q)).trans (mul_zero _)
  · exact (congrArg (· * _) (h4 q)).trans (zero_mul _)
  · exact (congrArg (· * _) (h5 q)).trans (zero_mul _)
  · rw [add_zero, add_zero, add_zero, add_zero]

theorem fine1_apply {w : FVec Ideal S256x256 .bf16} {W : Fin 256 → Fin 256 → ℝ} (hw : ∀ k m, w (ix2 k m) = ((W k m : ℝ) : EReal))
    (hre : Holds re R) (him : Holds im I) (c : Fin 128) (i : Fin 16) (m : Fin 256) :
    fine1 w re im (ix3 c i m)
      = ((∑ k : Fin 128, (R c i k * W ⟨k.val + 128 * 0, by omega⟩ m + I c i k * W ⟨k.val + 128 * 1, by omega⟩ m) : ℝ) : EReal) := by
  unfold fine1
  refine (mat_apply (a := 128) (b := 16) (R := 2048) (K := 256) (M := 256) rfl _ w _ zero_acc _ _ none c i m).trans ?_
  rw [sum_blocks 2 128 rfl, Fin.sum_univ_two, Finset.sum_add_distrib, EReal.coe_add, ← coe_sum, ← coe_sum]
  have e0 (q : Fin 128) := concat_last [hi re, hi im] concatenates_S128x16x128_S128x16x128_S128x16x256_d2 c i
  have h0 (q : Fin 128) := (e0 q 0 (by simp) q (by omega)).trans (hi_holds hre c i q)
  have h1 (q : Fin 128) := (e0 q 1 (by simp) q (by omega)).trans (hi_holds him c i q)
  exact congrArg₂ (· + ·)
    (Finset.sum_congr rfl fun q _ => (congrArg₂ (· * ·) (h0 q) (hw ⟨q.val + 128 * 0, by omega⟩ m)).trans (EReal.coe_mul _ _).symm)
    (Finset.sum_congr rfl fun q _ => (congrArg₂ (· * ·) (h1 q) (hw ⟨q.val + 128 * 1, by omega⟩ m)).trans (EReal.coe_mul _ _).symm)

/-- The real half of a second-stage result. -/
def half0 (y : FVec Ideal S128x16x256 .f32) : FVec Ideal S128x16x128 .f32 :=
  extractStridedSlice S128x16x128 ![0, 0, 0] y slices_S128x16x256_o0_0_0_S128x16x128

/-- The imaginary half of a second-stage result. -/
def half1 (y : FVec Ideal S128x16x256 .f32) : FVec Ideal S128x16x128 .f32 :=
  extractStridedSlice S128x16x128 ![0, 0, 128] y slices_S128x16x256_o0_0_128_S128x16x128

theorem half0_apply (y : FVec Ideal S128x16x256 .f32) (c : Fin 128) (i : Fin 16) (j : Fin 128) :
    half0 y (ix3 c i j) = y (ix3 c i (⟨0 + j.val, by omega⟩ : Fin 256)) := slice_last 0 y _ c i j (by omega)

theorem half1_apply (y : FVec Ideal S128x16x256 .f32) (c : Fin 128) (i : Fin 16) (j : Fin 128) :
    half1 y (ix3 c i j) = y (ix3 c i (⟨128 + j.val, by omega⟩ : Fin 256)) := slice_last 128 y _ c i j (by omega)

/-! ## The product with a conjugate -/

/-- The real part of `(a + i b) · conj (c + i d)`. -/
def crossRe (a b c d : FVec Ideal S128x16x128 .f32) : FVec Ideal S128x16x128 .f32 := addf (mulf a c) (mulf b d)

/-- The imaginary part of `(a + i b) · conj (c + i d)`. -/
def crossIm (a b c d : FVec Ideal S128x16x128 .f32) : FVec Ideal S128x16x128 .f32 := subf (mulf b c) (mulf a d)

theorem crossRe_holds {a b c d : FVec Ideal S128x16x128 .f32} {A B C D} (ha : Holds a A) (hb : Holds b B) (hc : Holds c C)
    (hd : Holds d D) : Holds (crossRe a b c d) fun e i j => A e i j * C e i j + B e i j * D e i j := by
  intro e i j
  unfold crossRe
  rw [addf_apply, mulf_apply, mulf_apply, ha, hb, hc, hd, EReal.coe_add, EReal.coe_mul, EReal.coe_mul]

theorem crossIm_holds {a b c d : FVec Ideal S128x16x128 .f32} {A B C D} (ha : Holds a A) (hb : Holds b B) (hc : Holds c C)
    (hd : Holds d D) : Holds (crossIm a b c d) fun e i j => B e i j * C e i j - A e i j * D e i j := by
  intro e i j
  unfold crossIm
  rw [subf_apply, mulf_apply, mulf_apply, ha, hb, hc, hd, EReal.coe_sub, EReal.coe_mul, EReal.coe_mul]

/-! ## The inverse transform's twiddle factors and last stage -/

/-- The real part after the twiddle factor of the inverse transform. -/
def untwRe (tc ts : FVec Ideal S1x16x128 .f32) (y : FVec Ideal S128x16x256 .f32) : FVec Ideal S128x16x128 .f32 :=
  subf (mulf (half0 y) (broadcastTo S128x16x128 tc broadcasts_S1x16x128_S128x16x128))
    (mulf (half1 y) (broadcastTo S128x16x128 ts broadcasts_S1x16x128_S128x16x128))

/-- The imaginary part after the twiddle factor of the inverse transform. -/
def untwIm (tc ts : FVec Ideal S1x16x128 .f32) (y : FVec Ideal S128x16x256 .f32) : FVec Ideal S128x16x128 .f32 :=
  addf (mulf (half0 y) (broadcastTo S128x16x128 ts broadcasts_S1x16x128_S128x16x128))
    (mulf (half1 y) (broadcastTo S128x16x128 tc broadcasts_S1x16x128_S128x16x128))

theorem untwRe_holds (hc : IsTw tc TC) (hs : IsTw ts TS) {y : FVec Ideal S128x16x256 .f32} {Y : Fin 128 → Fin 16 → Fin 256 → ℝ}
    (hy : ∀ c i m, y (ix3 c i m) = ((Y c i m : ℝ) : EReal)) :
    Holds (untwRe tc ts y) fun c i j => Y c i ⟨0 + j.val, by omega⟩ * TC i j - Y c i ⟨128 + j.val, by omega⟩ * TS i j := by
  intro c i j
  unfold untwRe
  rw [subf_apply, mulf_apply, mulf_apply, half0_apply, half1_apply, bcastRow_apply _ _ (by decide) (by decide),
    bcastRow_apply _ _ (by decide) (by decide), hy, hy, hc, hs, EReal.coe_sub, EReal.coe_mul, EReal.coe_mul]

theorem untwIm_holds (hc : IsTw tc TC) (hs : IsTw ts TS) {y : FVec Ideal S128x16x256 .f32} {Y : Fin 128 → Fin 16 → Fin 256 → ℝ}
    (hy : ∀ c i m, y (ix3 c i m) = ((Y c i m : ℝ) : EReal)) :
    Holds (untwIm tc ts y) fun c i j => Y c i ⟨0 + j.val, by omega⟩ * TS i j + Y c i ⟨128 + j.val, by omega⟩ * TC i j := by
  intro c i j
  unfold untwIm
  rw [addf_apply, mulf_apply, mulf_apply, half0_apply, half1_apply, bcastRow_apply _ _ (by decide) (by decide),
    bcastRow_apply _ _ (by decide) (by decide), hy, hy, hc, hs, EReal.coe_add, EReal.coe_mul, EReal.coe_mul]

/-- Real and imaginary parts one above the other, positions last. -/
def stack (re im : FVec Ideal S128x16x128 .bf16) : FVec Ideal S128x128x32 .bf16 :=
  transpose S128x128x32 [0, 2, 1] (concatenate S128x32x128 1 [⟨S128x16x128, re⟩, ⟨S128x16x128, im⟩]
    concatenates_S128x16x128_S128x16x128_S128x32x128_d1) transposes_S128x32x128_p0_2_1_S128x128x32

theorem stack_apply0 (re im : FVec Ideal S128x16x128 .bf16) (c j : Fin 128) (k : Fin 16) (hk : k.val + 16 * 0 < 32) :
    stack re im (ix3 c j (⟨k.val + 16 * 0, hk⟩ : Fin 32)) = re (ix3 c k j) :=
  (swap_apply _ _ c j _).trans (concat_mid [re, im] concatenates_S128x16x128_S128x16x128_S128x32x128_d1 c j 0 (by simp) k hk)

theorem stack_apply1 (re im : FVec Ideal S128x16x128 .bf16) (c j : Fin 128) (k : Fin 16) (hk : k.val + 16 * 1 < 32) :
    stack re im (ix3 c j (⟨k.val + 16 * 1, hk⟩ : Fin 32)) = im (ix3 c k j) :=
  (swap_apply _ _ c j _).trans (concat_mid [re, im] concatenates_S128x16x128_S128x16x128_S128x32x128_d1 c j 1 (by simp) k hk)

/-- The last stage, operands split in high and low parts. -/
def last3 (w : FVec Ideal S96x16 .bf16) (re im : FVec Ideal S128x16x128 .f32) : FVec Ideal S128x16x128 .f32 :=
  transpose S128x16x128 [0, 2, 1] (shapeCast S128x128x16 (matmul dot_S16384x96_S96x16_S16384x16_1_0_0_1_n_n none
    (shapeCast S16384x96 (concatenate S128x128x96 2
      [⟨S128x128x32, stack (hi re) (hi im)⟩, ⟨S128x128x32, stack (hi re) (hi im)⟩, ⟨S128x128x32, stack (lo re) (lo im)⟩]
      concatenates_S128x128x32_S128x128x32_S128x128x32_S128x128x96_d2) shapeCasts_S128x128x96_S16384x96)
    w (constant S16384x16 .f32 0x00000000#32)) shapeCasts_S16384x16_S128x128x16) transposes_S128x128x16_p0_2_1_S128x16x128

/-- The last stage, operands rounded once. -/
def last1 (w : FVec Ideal S32x16 .bf16) (re im : FVec Ideal S128x16x128 .f32) : FVec Ideal S128x16x128 .f32 :=
  transpose S128x16x128 [0, 2, 1] (shapeCast S128x128x16 (matmul dot_S16384x32_S32x16_S16384x16_1_0_0_1_n_n none
    (shapeCast S16384x32 (stack (hi re) (hi im)) shapeCasts_S128x128x32_S16384x32)
    w (constant S16384x16 .f32 0x00000000#32)) shapeCasts_S16384x16_S128x128x16) transposes_S128x128x16_p0_2_1_S128x16x128

/-- The sum over the stacked parts, as one sum over the coarse frequencies. -/
theorem stack_sum {W : Fin 32 → Fin 16 → ℝ} (hre : Holds re R) (him : Holds im I) (w : Fin 32 → EReal) (m : Fin 16)
    (hw : ∀ k, w k = ((W k m : ℝ) : EReal)) (c j : Fin 128) :
    ∑ k : Fin 32, stack (hi re) (hi im) (ix3 c j k) * w k
      = ((∑ k : Fin 16, (R c k j * W ⟨k.val + 16 * 0, by omega⟩ m + I c k j * W ⟨k.val + 16 * 1, by omega⟩ m) : ℝ) : EReal) := by
  rw [sum_blocks 2 16 rfl, Fin.sum_univ_two, Finset.sum_add_distrib, EReal.coe_add, ← coe_sum, ← coe_sum]
  exact congrArg₂ (· + ·)
    (Finset.sum_congr rfl fun q _ => (congrArg₂ (· * ·) ((stack_apply0 _ _ c j q (by omega)).trans (hi_holds hre c q j))
      (hw ⟨q.val + 16 * 0, by omega⟩)).trans (EReal.coe_mul _ _).symm)
    (Finset.sum_congr rfl fun q _ => (congrArg₂ (· * ·) ((stack_apply1 _ _ c j q (by omega)).trans (hi_holds him c q j))
      (hw ⟨q.val + 16 * 1, by omega⟩)).trans (EReal.coe_mul _ _).symm)

theorem last3_holds {w : FVec Ideal S96x16 .bf16} {W : Fin 32 → Fin 16 → ℝ} (hw : Is3 (K := 32) rfl w W)
    (hre : Holds re R) (him : Holds im I) :
    Holds (last3 w re im) fun c m j =>
      ∑ k : Fin 16, (R c k j * W ⟨k.val + 16 * 0, by omega⟩ m + I c k j * W ⟨k.val + 16 * 1, by omega⟩ m) := by
  intro c m j
  unfold last3
  rw [swap_apply]
  refine (mat_apply (a := 128) (b := 128) (R := 16384) (K := 96) (M := 16) rfl _ w _ zero_acc _ _ none c j m).trans ?_
  rw [sum_blocks 3 32 rfl, Fin.sum_univ_three]
  have e0 (q : Fin 32) := concat_last [stack (hi re) (hi im), stack (hi re) (hi im), stack (lo re) (lo im)]
    concatenates_S128x128x32_S128x128x32_S128x128x32_S128x128x96_d2 c j
  have z1 : ∀ s : Fin 32 → EReal, (∀ q, s q = 0) → ∑ q, s q = 0 := fun s hs => Finset.sum_eq_zero fun q _ => hs q
  have hz (q : Fin 32) : stack (lo re) (lo im) (ix3 c j q) = 0 := by
    rcases Nat.lt_or_ge q.val 16 with h | h
    · exact (congrArg (fun a => stack (lo re) (lo im) (ix3 c j a)) (Fin.ext (by show q.val = q.val + 16 * 0; omega))).trans
        ((stack_apply0 _ _ c j ⟨q.val, h⟩ (by show q.val + 16 * 0 < 32; omega)).trans (lo_apply hre c _ j))
    · exact (congrArg (fun a => stack (lo re) (lo im) (ix3 c j a)) (Fin.ext (by show q.val = (q.val - 16) + 16 * 1; omega))).trans
        ((stack_apply1 _ _ c j ⟨q.val - 16, by omega⟩ (by show (q.val - 16) + 16 * 1 < 32; omega)).trans (lo_apply him c _ j))
  refine (congrArg₂ (· + ·) (congrArg₂ (· + ·) (Finset.sum_congr rfl fun q _ => congrArg (· * _) (e0 q 0 (by simp) q (by omega)))
    (z1 _ fun q => ?_)) (z1 _ fun q => ?_)).trans ?_
  · exact (congrArg (_ * ·) (hw.2 q m)).trans (mul_zero _)
  · exact (congrArg (· * _) ((e0 q 2 (by simp) q (by omega)).trans (hz q))).trans (zero_mul _)
  · rw [add_zero, add_zero]
    exact stack_sum hre him (fun q => w (ix2 (⟨q.val + 32 * 0, by omega⟩ : Fin 96) m)) m (fun q => hw.1 q m) c j

theorem last1_holds {w : FVec Ideal S32x16 .bf16} {W : Fin 32 → Fin 16 → ℝ} (hw : ∀ k m, w (ix2 k m) = ((W k m : ℝ) : EReal))
    (hre : Holds re R) (him : Holds im I) :
    Holds (last1 w re im) fun c m j =>
      ∑ k : Fin 16, (R c k j * W ⟨k.val + 16 * 0, by omega⟩ m + I c k j * W ⟨k.val + 16 * 1, by omega⟩ m) := by
  intro c m j
  unfold last1
  rw [swap_apply]
  refine (mat_apply (a := 128) (b := 128) (R := 16384) (K := 32) (M := 16) rfl _ w _ zero_acc _ _ none c j m).trans ?_
  exact stack_sum hre him (fun q => w (ix2 q m)) m (fun q => hw q m) c j

end Cert.Stages
-- ==== Proof.Transforms.lean ====
/-
  The kernel's two pipelines of transforms on one block — the cross-correlation of the queries and the keys, and that of the
  values and the weights —, read as the circular cross-correlation of each channel.
-/
module

public import proofs.«01_k».proof.Proof.Stages

@[expose] public section

set_option synthInstance.maxSize 4096

noncomputable section

namespace Cert.Transforms

open Idealize.ShloMosaic Idealize.ShloMosaic.ValueIdx Cert.KernelIdeal Cert.Layout Cert.Stages Cert.Dft

/-! ## The tables -/

/-- First stage, forward: cosines, then minus sines. -/
def W1F (k : Fin 16) (m : Fin 32) : ℝ := if m.val < 16 then cosT 16 (k.val * m.val) else -sinT 16 (k.val * (m.val - 16))
/-- Second stage, forward: the matrix of multiplication by `exp (−2πi·/128)`, real and imaginary parts apart. -/
def W2F (k m : Fin 256) : ℝ :=
  if k.val < 128 then (if m.val < 128 then cosT 128 (k.val * m.val) else -sinT 128 (k.val * (m.val - 128)))
  else (if m.val < 128 then sinT 128 ((k.val - 128) * m.val) else cosT 128 ((k.val - 128) * (m.val - 128)))
/-- First stage, inverse: the matrix of multiplication by `exp (2πi·/128)`. -/
def W2I (k m : Fin 256) : ℝ :=
  if k.val < 128 then (if m.val < 128 then cosT 128 (k.val * m.val) else sinT 128 (k.val * (m.val - 128)))
  else (if m.val < 128 then -sinT 128 ((k.val - 128) * m.val) else cosT 128 ((k.val - 128) * (m.val - 128)))
/-- Last stage, inverse: the real part alone, over 2048. -/
def W1I (k : Fin 32) (m : Fin 16) : ℝ :=
  if k.val < 16 then cosT 16 (k.val * m.val) / 2048 else -sinT 16 ((k.val - 16) * m.val) / 2048
/-- The twiddle factors: cosines. -/
def TC (i : Fin 16) (j : Fin 128) : ℝ := cosT 2048 (j.val * i.val)
/-- The twiddle factors: sines. -/
def TS (i : Fin 16) (j : Fin 128) : ℝ := sinT 2048 (j.val * i.val)

/-- What the proof needs of the ten tables that the kernel is handed. -/
structure Tables (w1f : FVec Ideal S16x32 .bf16) (w1f3 : FVec Ideal S48x32 .bf16) (w2f : FVec Ideal S256x256 .bf16)
    (w2f3 : FVec Ideal S768x256 .bf16) (w2i : FVec Ideal S256x256 .bf16) (w2i3 : FVec Ideal S768x256 .bf16)
    (w1i : FVec Ideal S32x16 .bf16) (w1i3 : FVec Ideal S96x16 .bf16) (tc ts : FVec Ideal S1x16x128 .f32) : Prop where
  w1f : ∀ k m, w1f (ix2 k m) = ((W1F k m : ℝ) : EReal)
  w1f3 : Is3 (K := 16) rfl w1f3 W1F
  w2f : ∀ k m, w2f (ix2 k m) = ((W2F k m : ℝ) : EReal)
  w2f3 : Is3 (K := 256) rfl w2f3 W2F
  w2i : ∀ k m, w2i (ix2 k m) = ((W2I k m : ℝ) : EReal)
  w2i3 : Is3 (K := 256) rfl w2i3 W2I
  w1i : ∀ k m, w1i (ix2 k m) = ((W1I k m : ℝ) : EReal)
  w1i3 : Is3 (K := 32) rfl w1i3 W1I
  tc : IsTw tc TC
  ts : IsTw ts TS

theorem W1F_re (k i : Fin 16) : W1F k ⟨0 + i.val, by omega⟩ = cosT 16 (k.val * i.val) := by
  unfold W1F; dsimp only; rw [if_pos (by omega), Nat.zero_add]

theorem W1F_im (k i : Fin 16) : W1F k ⟨16 + i.val, by omega⟩ = -sinT 16 (k.val * i.val) := by
  unfold W1F; dsimp only; rw [if_neg (by omega), Nat.add_sub_cancel_left]

theorem W2F_rr (k j : Fin 128) : W2F ⟨k.val + 128 * 0, by omega⟩ ⟨0 + j.val, by omega⟩ = cosT 128 (k.val * j.val) := by
  unfold W2F; dsimp only; rw [if_pos (by omega), if_pos (by omega), Nat.zero_add]; rfl

theorem W2F_ri (k j : Fin 128) : W2F ⟨k.val + 128 * 0, by omega⟩ ⟨128 + j.val, by omega⟩ = -sinT 128 (k.val * j.val) := by
  unfold W2F; dsimp only; rw [if_pos (by omega), if_neg (by omega), Nat.add_sub_cancel_left]; rfl

theorem W2F_ir (k j : Fin 128) : W2F ⟨k.val + 128 * 1, by omega⟩ ⟨0 + j.val, by omega⟩ = sinT 128 (k.val * j.val) := by
  unfold W2F; dsimp only; rw [if_neg (by omega), if_pos (by omega), Nat.zero_add, Nat.mul_one, Nat.add_sub_cancel]

theorem W2F_ii (k j : Fin 128) : W2F ⟨k.val + 128 * 1, by omega⟩ ⟨128 + j.val, by omega⟩ = cosT 128 (k.val * j.val) := by
  unfold W2F; dsimp only
  rw [if_neg (by omega), if_neg (by omega), Nat.add_sub_cancel_left, Nat.mul_one, Nat.add_sub_cancel]

theorem W2I_rr (k j : Fin 128) : W2I ⟨k.val + 128 * 0, by omega⟩ ⟨0 + j.val, by omega⟩ = cosT 128 (k.val * j.val) := by
  unfold W2I; dsimp only; rw [if_pos (by omega), if_pos (by omega), Nat.zero_add]; rfl

theorem W2I_ri (k j : Fin 128) : W2I ⟨k.val + 128 * 0, by omega⟩ ⟨128 + j.val, by omega⟩ = sinT 128 (k.val * j.val) := by
  unfold W2I; dsimp only; rw [if_pos (by omega), if_neg (by omega), Nat.add_sub_cancel_left]; rfl

theorem W2I_ir (k j : Fin 128) : W2I ⟨k.val + 128 * 1, by omega⟩ ⟨0 + j.val, by omega⟩ = -sinT 128 (k.val * j.val) := by
  unfold W2I; dsimp only; rw [if_neg (by omega), if_pos (by omega), Nat.zero_add, Nat.mul_one, Nat.add_sub_cancel]

theorem W2I_ii (k j : Fin 128) : W2I ⟨k.val + 128 * 1, by omega⟩ ⟨128 + j.val, by omega⟩ = cosT 128 (k.val * j.val) := by
  unfold W2I; dsimp only
  rw [if_neg (by omega), if_neg (by omega), Nat.add_sub_cancel_left, Nat.mul_one, Nat.add_sub_cancel]

theorem W1I_re (k m : Fin 16) : W1I ⟨k.val + 16 * 0, by omega⟩ m = cosT 16 (k.val * m.val) / 2048 := by
  unfold W1I; dsimp only; rw [if_pos (by omega)]; rfl

theorem W1I_im (k m : Fin 16) : W1I ⟨k.val + 16 * 1, by omega⟩ m = -sinT 16 (k.val * m.val) / 2048 := by
  unfold W1I; dsimp only; rw [if_neg (by omega), Nat.mul_one, Nat.add_sub_cancel]

/-! ## The pipelines -/

/-- The forward transform, operands split in high and low parts. -/
def fwd3 (w1 : FVec Ideal S48x32 .bf16) (w2 : FVec Ideal S768x256 .bf16) (tc ts : FVec Ideal S1x16x128 .f32)
    (x : FVec Ideal S128x16x128 .f32) : FVec Ideal S128x16x256 .f32 :=
  fine3 w2 (twRe tc ts (coarse3 w1 x)) (twIm tc ts (coarse3 w1 x))

/-- The forward transform, operands rounded once. -/
def fwd1 (w1 : FVec Ideal S16x32 .bf16) (w2 : FVec Ideal S256x256 .bf16) (tc ts : FVec Ideal S1x16x128 .f32)
    (x : FVec Ideal S128x16x128 .f32) : FVec Ideal S128x16x256 .f32 :=
  fine1 w2 (twRe tc ts (coarse1 w1 x)) (twIm tc ts (coarse1 w1 x))

/-- The inverse transform, operands split in high and low parts. -/
def inv3 (w2 : FVec Ideal S768x256 .bf16) (w1 : FVec Ideal S96x16 .bf16) (tc ts : FVec Ideal S1x16x128 .f32)
    (re im : FVec Ideal S128x16x128 .f32) : FVec Ideal S128x16x128 .f32 :=
  last3 w1 (untwRe tc ts (fine3 w2 re im)) (untwIm tc ts (fine3 w2 re im))

/-- The inverse transform, operands rounded once. -/
def inv1 (w2 : FVec Ideal S256x256 .bf16) (w1 : FVec Ideal S32x16 .bf16) (tc ts : FVec Ideal S1x16x128 .f32)
    (re im : FVec Ideal S128x16x128 .f32) : FVec Ideal S128x16x128 .f32 :=
  last1 w1 (untwRe tc ts (fine1 w2 re im)) (untwIm tc ts (fine1 w2 re im))

/-- One transform times the conjugate of another, transformed back; operands split in high and low parts. -/
def back3 (w2 : FVec Ideal S768x256 .bf16) (w1 : FVec Ideal S96x16 .bf16) (tc ts : FVec Ideal S1x16x128 .f32)
    (y z : FVec Ideal S128x16x256 .f32) : FVec Ideal S128x16x128 .f32 :=
  inv3 w2 w1 tc ts (crossRe (half0 y) (half1 y) (half0 z) (half1 z)) (crossIm (half0 y) (half1 y) (half0 z) (half1 z))

/-- One transform times the conjugate of another, transformed back; operands rounded once. -/
def back1 (w2 : FVec Ideal S256x256 .bf16) (w1 : FVec Ideal S32x16 .bf16) (tc ts : FVec Ideal S1x16x128 .f32)
    (y z : FVec Ideal S128x16x256 .f32) : FVec Ideal S128x16x128 .f32 :=
  inv1 w2 w1 tc ts (crossRe (half0 y) (half1 y) (half0 z) (half1 z)) (crossIm (half0 y) (half1 y) (half0 z) (half1 z))

/-- The circular cross-correlation of two sequences, as the transforms compute it. -/
def xcorr (x y : Fin 16 → Fin 128 → ℝ) : Fin 16 → Fin 128 → ℝ :=
  inv (fun f1 f2 => fwdRe x f1 f2 * fwdRe y f1 f2 + fwdIm x f1 f2 * fwdIm y f1 f2)
    (fun f1 f2 => fwdIm x f1 f2 * fwdRe y f1 f2 - fwdRe x f1 f2 * fwdIm y f1 f2)

variable {w1f : FVec Ideal S16x32 .bf16} {w1f3 : FVec Ideal S48x32 .bf16} {w2f : FVec Ideal S256x256 .bf16}
  {w2f3 : FVec Ideal S768x256 .bf16} {w2i : FVec Ideal S256x256 .bf16} {w2i3 : FVec Ideal S768x256 .bf16}
  {w1i : FVec Ideal S32x16 .bf16} {w1i3 : FVec Ideal S96x16 .bf16} {tc ts : FVec Ideal S1x16x128 .f32}
  {x y : FVec Ideal S128x16x128 .f32} {r s : Fin 128 → Fin 16 → Fin 128 → ℝ}

/-- The first stage's sum, twiddled: real part. -/
theorem tw_re {u : FVec Ideal S128x32x128 .f32} (hc : IsTw tc TC) (hs : IsTw ts TS)
    (hu : ∀ c m j, u (ix3 c m j) = ((∑ k : Fin 16, r c k j * W1F k m : ℝ) : EReal)) :
    Holds (twRe tc ts u) fun c => bRe (r c) := fun c i j => (twRe_holds hc hs hu c i j).trans (by
  simp only [W1F_re, W1F_im]; rfl)

/-- The first stage's sum, twiddled: imaginary part. -/
theorem tw_im {u : FVec Ideal S128x32x128 .f32} (hc : IsTw tc TC) (hs : IsTw ts TS)
    (hu : ∀ c m j, u (ix3 c m j) = ((∑ k : Fin 16, r c k j * W1F k m : ℝ) : EReal)) :
    Holds (twIm tc ts u) fun c => bIm (r c) := fun c i j => (twIm_holds hc hs hu c i j).trans (by
  simp only [W1F_re, W1F_im]; rfl)

/-- The second stage's sum is the transform: real half. -/
theorem half_re {u : FVec Ideal S128x16x256 .f32} (hu : ∀ c i m, u (ix3 c i m) = ((∑ k : Fin 128,
    (bRe (r c) i k * W2F ⟨k.val + 128 * 0, by omega⟩ m + bIm (r c) i k * W2F ⟨k.val + 128 * 1, by omega⟩ m) : ℝ) : EReal)) :
    Holds (half0 u) fun c => fwdRe (r c) := fun c i j => (half0_apply u c i j).trans ((hu c i _).trans (by
  simp only [W2F_rr, W2F_ir]; rfl))

/-- The second stage's sum is the transform: imaginary half. -/
theorem half_im {u : FVec Ideal S128x16x256 .f32} (hu : ∀ c i m, u (ix3 c i m) = ((∑ k : Fin 128,
    (bRe (r c) i k * W2F ⟨k.val + 128 * 0, by omega⟩ m + bIm (r c) i k * W2F ⟨k.val + 128 * 1, by omega⟩ m) : ℝ) : EReal)) :
    Holds (half1 u) fun c => fwdIm (r c) := fun c i j => (half1_apply u c i j).trans ((hu c i _).trans (by
  simp only [W2F_ri, W2F_ii]; rfl))

variable (T : Tables w1f w1f3 w2f w2f3 w2i w2i3 w1i w1i3 tc ts)
include T

theorem fwd3_re (hx : Holds x r) : Holds (half0 (fwd3 w1f3 w2f3 tc ts x)) fun c => fwdRe (r c) :=
  half_re (fine3_apply T.w2f3 (tw_re T.tc T.ts (coarse3_apply T.w1f3 hx)) (tw_im T.tc T.ts (coarse3_apply T.w1f3 hx)))

theorem fwd3_im (hx : Holds x r) : Holds (half1 (fwd3 w1f3 w2f3 tc ts x)) fun c => fwdIm (r c) :=
  half_im (fine3_apply T.w2f3 (tw_re T.tc T.ts (coarse3_apply T.w1f3 hx)) (tw_im T.tc T.ts (coarse3_apply T.w1f3 hx)))

theorem fwd1_re (hx : Holds x r) : Holds (half0 (fwd1 w1f w2f tc ts x)) fun c => fwdRe (r c) :=
  half_re (fine1_apply T.w2f (tw_re T.tc T.ts (coarse1_apply T.w1f hx)) (tw_im T.tc T.ts (coarse1_apply T.w1f hx)))

theorem fwd1_im (hx : Holds x r) : Holds (half1 (fwd1 w1f w2f tc ts x)) fun c => fwdIm (r c) :=
  half_im (fine1_apply T.w2f (tw_re T.tc T.ts (coarse1_apply T.w1f hx)) (tw_im T.tc T.ts (coarse1_apply T.w1f hx)))

omit T

/-- The inverse's twiddled first stage: real part. -/
theorem untw_re {u : FVec Ideal S128x16x256 .f32} (hc : IsTw tc TC) (hs : IsTw ts TS) (hu : ∀ c i m, u (ix3 c i m) = ((∑ k : Fin 128,
    (r c i k * W2I ⟨k.val + 128 * 0, by omega⟩ m + s c i k * W2I ⟨k.val + 128 * 1, by omega⟩ m) : ℝ) : EReal)) :
    Holds (untwRe tc ts u) fun c => hRe (r c) (s c) := fun c i j => (untwRe_holds hc hs hu c i j).trans (by
  simp only [W2I_rr, W2I_ri, W2I_ir, W2I_ii]; rfl)

/-- The inverse's twiddled first stage: imaginary part. -/
theorem untw_im {u : FVec Ideal S128x16x256 .f32} (hc : IsTw tc TC) (hs : IsTw ts TS) (hu : ∀ c i m, u (ix3 c i m) = ((∑ k : Fin 128,
    (r c i k * W2I ⟨k.val + 128 * 0, by omega⟩ m + s c i k * W2I ⟨k.val + 128 * 1, by omega⟩ m) : ℝ) : EReal)) :
    Holds (untwIm tc ts u) fun c => hIm (r c) (s c) := fun c i j => (untwIm_holds hc hs hu c i j).trans (by
  simp only [W2I_rr, W2I_ri, W2I_ir, W2I_ii]; rfl)

include T

theorem inv3_holds (hx : Holds x r) (hy : Holds y s) : Holds (inv3 w2i3 w1i3 tc ts x y) fun c => inv (r c) (s c) :=
  fun c i j => (last3_holds T.w1i3 (untw_re T.tc T.ts (fine3_apply T.w2i3 hx hy)) (untw_im T.tc T.ts (fine3_apply T.w2i3 hx hy))
    c i j).trans (by simp only [W1I_re, W1I_im]; rfl)

theorem inv1_holds (hx : Holds x r) (hy : Holds y s) : Holds (inv1 w2i w1i tc ts x y) fun c => inv (r c) (s c) :=
  fun c i j => (last1_holds T.w1i (untw_re T.tc T.ts (fine1_apply T.w2i hx hy)) (untw_im T.tc T.ts (fine1_apply T.w2i hx hy))
    c i j).trans (by simp only [W1I_re, W1I_im]; rfl)

/-- The split pipeline computes each channel's cross-correlation. -/
theorem corr3_holds (hx : Holds x r) (hy : Holds y s) :
    Holds (back3 w2i3 w1i3 tc ts (fwd3 w1f3 w2f3 tc ts x) (fwd3 w1f3 w2f3 tc ts y)) fun c => xcorr (r c) (s c) :=
  inv3_holds T (crossRe_holds (fwd3_re T hx) (fwd3_im T hx) (fwd3_re T hy) (fwd3_im T hy))
    (crossIm_holds (fwd3_re T hx) (fwd3_im T hx) (fwd3_re T hy) (fwd3_im T hy))

/-- The plain pipeline computes each channel's cross-correlation. -/
theorem corr1_holds (hx : Holds x r) (hy : Holds y s) :
    Holds (back1 w2i w1i tc ts (fwd1 w1f w2f tc ts x) (fwd1 w1f w2f tc ts y)) fun c => xcorr (r c) (s c) :=
  inv1_holds T (crossRe_holds (fwd1_re T hx) (fwd1_im T hx) (fwd1_re T hy) (fwd1_im T hy))
    (crossIm_holds (fwd1_re T hx) (fwd1_im T hx) (fwd1_re T hy) (fwd1_im T hy))

end Cert.Transforms
-- ==== Proof.HostTables.lean ====
/-
  The tables of cosines and sines that the host program computes and hands to the kernel, read entry by entry: each entry is
  the cosine or the sine (or its negative, or its 2048th part) that the transforms need, and the low half of each table — the
  table less its own high half — is zero over the reals.
-/
module

public import proofs.«01_k».proof.Proof.Transforms

@[expose] public section

set_option synthInstance.maxSize 4096

noncomputable section

namespace Cert.HostTables

open Idealize.ShloMosaic Idealize.ShloMosaic.ValueIdx Cert.KernelIdeal Cert.KernelIdeal.Gen Cert.Stages Cert.Dft Cert.Transforms

/-! ## One angle -/

theorem two_lit : Ideal.ofBits .f32 0x40000000#32 = ((2 : ℝ) : EReal) := by
  simp [Ideal.ofBits, Ideal.ieee, -EReal.coe_mul]; norm_num
theorem minus_one_lit : Ideal.ofBits .f32 0xBF800000#32 = ((-1 : ℝ) : EReal) := by
  simp [Ideal.ofBits, Ideal.ieee, -EReal.coe_mul]; norm_num
theorem lit16 : Ideal.ofBits .f32 0x41800000#32 = (((16 : ℕ) : ℝ) : EReal) := by
  simp [Ideal.ofBits, Ideal.ieee, -EReal.coe_mul]; norm_num
theorem lit128 : Ideal.ofBits .f32 0x43000000#32 = (((128 : ℕ) : ℝ) : EReal) := by
  simp [Ideal.ofBits, Ideal.ieee, -EReal.coe_mul]; norm_num
theorem lit2048 : Ideal.ofBits .f32 0x45000000#32 = (((2048 : ℕ) : ℝ) : EReal) := by
  simp [Ideal.ofBits, Ideal.ieee, -EReal.coe_mul]; norm_num

/-- Twice the arc cosine of minus one: the step of the angles before it is divided. -/
def twoPi : FVec Ideal S_ .f32 := mulf (constant S_ .f32 0x40000000#32) (Host.acos (constant S_ .f32 0xBF800000#32))

theorem step_apply {lit : BitVec 32} {N : ℕ} (hN : 0 < N) (h : Ideal.ofBits .f32 lit = ((N : ℝ) : EReal)) (i : S_.Idx) :
    Host.divf twoPi (constant S_ .f32 lit) i = ((2 * Real.pi / N : ℝ) : EReal) := by
  show Ideal.div (Ideal.ofBits .f32 0x40000000#32 * Ideal.acos (Ideal.ofBits .f32 0xBF800000#32)) (Ideal.ofBits .f32 lit) = _
  rw [two_lit, minus_one_lit, h, Ideal.acos_coe, if_pos (by norm_num), Real.arccos_neg_one,
    Ideal.div_coe (by exact_mod_cast hN.ne' : (N : ℝ) ≠ 0), ← EReal.coe_mul, ← EReal.coe_mul]
  congr 1
  ring

/-- The product of two small counters reduced modulo `N`, as the host computes it in 32-bit words. -/
theorem rem_word (a b N : ℕ) (ha : a < 1024) (hb : b < 1024) (hN : 0 < N) (hN' : N < 2 ^ 20) :
    (IntOp.remsi .host (BitVec.ofNat 32 a * BitVec.ofNat 32 b) (BitVec.ofNat 32 N)).toInt = ((a * b % N : ℕ) : ℤ) := by
  have hab : a * b < 2 ^ 20 := by
    calc a * b < 1024 * 1024 := Nat.mul_lt_mul'' ha hb
      _ = 2 ^ 20 := by norm_num
  have hv : (BitVec.ofNat 32 a * BitVec.ofNat 32 b).toNat = a * b := by
    rw [← BitVec.ofNat_mul, BitVec.toNat_ofNat]; omega
  have h := IntOp.toNat_remsi .host (x := BitVec.ofNat 32 a * BitVec.ofNat 32 b) (by rw [hv]; omega) N hN (by omega)
  have hlt : a * b % N < 2 ^ 20 := lt_trans (Nat.mod_lt _ hN) hN'
  rw [BitVec.toInt_eq_toNat_of_lt (by rw [h, hv]; omega), h, hv]

/-- The angles: entry `(a, b)` is `(a b mod N) 2π / N`. -/
theorem angle_apply {a b N : ℕ} {lit : BitVec 32} (ha : a ≤ 1024) (hb : b ≤ 1024) (hN : 0 < N) (hN' : N < 2 ^ 20)
    (h : Ideal.ofBits .f32 lit = ((N : ℝ) : EReal)) (x y z : (⟨2, ![a, b]⟩ : Shape).Idx → BitVec 32) (s : FVec Ideal ⟨2, ![a, b]⟩ .f32)
    (hx : ∀ i j, x (ix2 i j) = BitVec.ofNat 32 i.val) (hy : ∀ i j, y (ix2 i j) = BitVec.ofNat 32 j.val)
    (hz : ∀ i j, z (ix2 i j) = BitVec.ofNat 32 N) (hs : ∀ i j, s (ix2 i j) = ((2 * Real.pi / N : ℝ) : EReal)) (i : Fin a) (j : Fin b) :
    mulf (sitofp (F := Ideal) .f32 (Host.remsi (muli x y) z)) s (ix2 i j)
      = (((i.val * j.val % N : ℕ) * (2 * Real.pi / N) : ℝ) : EReal) := by
  show (((IntOp.remsi .host (x (ix2 i j) * y (ix2 i j)) (z (ix2 i j))).toInt : ℝ) : EReal) * s (ix2 i j) = _
  rw [hx, hy, hz, hs, rem_word _ _ _ (by omega) (by omega) hN hN', Int.cast_natCast, ← EReal.coe_mul]

/-! ## The three tables of angles -/

def angle16 : FVec Ideal S16x16 .f32 :=
  mulf (sitofp .f32 (Host.remsi
      (muli (broadcastInDim S16x16 ![0, 1] bcast_S16x1_S16x16_0_1 (broadcastInDim S16x1 ![0] bcast_S16_S16x1_0 (iotaInDim S16 32 0)))
        (broadcastInDim S16x16 ![0, 1] bcast_S1x16_S16x16_0_1 (broadcastInDim S1x16 ![1] bcast_S16_S1x16_1 (iotaInDim S16 32 0))))
      (broadcastInDim S16x16 ![] bcast_S_S16x16 (constantI S_ 32 16#32))))
    (broadcastInDim S16x16 ![] bcast_S_S16x16 (Host.divf twoPi (constant S_ .f32 0x41800000#32)))

def angle128 : FVec Ideal S128x128 .f32 :=
  mulf (sitofp .f32 (Host.remsi
      (muli (broadcastInDim S128x128 ![0, 1] bcast_S128x1_S128x128_0_1 (broadcastInDim S128x1 ![0] bcast_S128_S128x1_0 (iotaInDim S128 32 0)))
        (broadcastInDim S128x128 ![0, 1] bcast_S1x128_S128x128_0_1 (broadcastInDim S1x128 ![1] bcast_S128_S1x128_1 (iotaInDim S128 32 0))))
      (broadcastInDim S128x128 ![] bcast_S_S128x128 (constantI S_ 32 128#32))))
    (broadcastInDim S128x128 ![] bcast_S_S128x128 (Host.divf twoPi (constant S_ .f32 0x43000000#32)))

def angle2048 : FVec Ideal S128x16 .f32 :=
  mulf (sitofp .f32 (Host.remsi
      (muli (broadcastInDim S128x16 ![0, 1] bcast_S128x1_S128x16_0_1 (broadcastInDim S128x1 ![0] bcast_S128_S128x1_0 (iotaInDim S128 32 0)))
        (broadcastInDim S128x16 ![0, 1] bcast_S1x16_S128x16_0_1 (broadcastInDim S1x16 ![1] bcast_S16_S1x16_1 (iotaInDim S16 32 0))))
      (broadcastInDim S128x16 ![] bcast_S_S128x16 (constantI S_ 32 2048#32))))
    (broadcastInDim S128x16 ![] bcast_S_S128x16 (Host.divf twoPi (constant S_ .f32 0x45000000#32)))

/-- A counter laid along the rows. -/
theorem rows_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1]) (ha : a ≠ 1) (i : Fin a) (j : Fin b) :
    broadcastInDim ⟨2, ![a, b]⟩ ![0, 1] h2 (broadcastInDim ⟨2, ![a, 1]⟩ ![0] h1 (iotaInDim ⟨1, ![a]⟩ 32 0)) (ix2 i j)
      = BitVec.ofNat 32 i.val := by
  refine (broadcastInDim_apply _ h2 _ (ix2 i j) (ix2 i (0 : Fin 1)) fun e => ?_).trans
    ((broadcastInDim_apply _ h1 _ (ix2 i (0 : Fin 1)) (ix1 i) fun e => ?_).trans rfl)
  · match e with
    | ⟨0, _⟩ => exact (if_neg (show ¬ a = 1 from ha)).symm
    | ⟨1, _⟩ => rfl
  · match e with
    | ⟨0, _⟩ => exact (if_neg (show ¬ a = 1 from ha)).symm

/-- A counter laid along the columns. -/
theorem cols_apply {a b : ℕ} (h1 : (⟨1, ![b]⟩ : Shape).BroadcastsInDim ⟨2, ![1, b]⟩ ![1])
    (h2 : (⟨2, ![1, b]⟩ : Shape).BroadcastsInDim ⟨2, ![a, b]⟩ ![0, 1]) (hb : b ≠ 1) (i : Fin a) (j : Fin b) :
    broadcastInDim ⟨2, ![a, b]⟩ ![0, 1] h2 (broadcastInDim ⟨2, ![1, b]⟩ ![1] h1 (iotaInDim ⟨1, ![b]⟩ 32 0)) (ix2 i j)
      = BitVec.ofNat 32 j.val := by
  refine (broadcastInDim_apply _ h2 _ (ix2 i j) (ix2 (0 : Fin 1) j) fun e => ?_).trans
    ((broadcastInDim_apply _ h1 _ (ix2 (0 : Fin 1) j) (ix1 j) fun e => ?_).trans rfl)
  · match e with
    | ⟨0, _⟩ => rfl
    | ⟨1, _⟩ => exact (if_neg (show ¬ b = 1 from hb)).symm
  · match e with
    | ⟨0, _⟩ => exact (if_neg (show ¬ b = 1 from hb)).symm

theorem angle16_apply (i j : Fin 16) : angle16 (ix2 i j) = (((i.val * j.val % 16 : ℕ) * (2 * Real.pi / (16 : ℕ)) : ℝ) : EReal) :=
  angle_apply (by norm_num) (by norm_num) (by norm_num) (by norm_num) lit16 _ _ _ _ (rows_apply _ _ (by norm_num))
    (cols_apply _ _ (by norm_num)) (fun _ _ => rfl) (fun _ _ => step_apply (by norm_num) lit16 _) i j

theorem angle128_apply (i j : Fin 128) :
    angle128 (ix2 i j) = (((i.val * j.val % 128 : ℕ) * (2 * Real.pi / (128 : ℕ)) : ℝ) : EReal) :=
  angle_apply (by norm_num) (by norm_num) (by norm_num) (by norm_num) lit128 _ _ _ _ (rows_apply _ _ (by norm_num))
    (cols_apply _ _ (by norm_num)) (fun _ _ => rfl) (fun _ _ => step_apply (by norm_num) lit128 _) i j

theorem angle2048_apply (i : Fin 128) (j : Fin 16) :
    angle2048 (ix2 i j) = (((i.val * j.val % 2048 : ℕ) * (2 * Real.pi / (2048 : ℕ)) : ℝ) : EReal) :=
  angle_apply (by norm_num) (by norm_num) (by norm_num) (by norm_num) lit2048 _ _ _ _ (rows_apply _ _ (by norm_num))
    (cols_apply _ _ (by norm_num)) (fun _ _ => rfl) (fun _ _ => step_apply (by norm_num) lit2048 _) i j

/-! ## Cosines and sines -/

theorem cos_apply {a b N : ℕ} (hN : 0 < N) {x : FVec Ideal ⟨2, ![a, b]⟩ .f32}
    (hx : ∀ i j, x (ix2 i j) = (((i.val * j.val % N : ℕ) * (2 * Real.pi / N) : ℝ) : EReal)) (i : Fin a) (j : Fin b) :
    Host.cos x (ix2 i j) = ((cosT N (i.val * j.val) : ℝ) : EReal) := by
  show Ideal.cos (x (ix2 i j)) = _
  rw [hx]
  show ((Real.cos _ : ℝ) : EReal) = _
  rw [cosT_mod _ _ hN]

theorem sin_apply {a b N : ℕ} (hN : 0 < N) {x : FVec Ideal ⟨2, ![a, b]⟩ .f32}
    (hx : ∀ i j, x (ix2 i j) = (((i.val * j.val % N : ℕ) * (2 * Real.pi / N) : ℝ) : EReal)) (i : Fin a) (j : Fin b) :
    Host.sin x (ix2 i j) = ((sinT N (i.val * j.val) : ℝ) : EReal) := by
  show Ideal.sin (x (ix2 i j)) = _
  rw [hx]
  show ((Real.sin _ : ℝ) : EReal) = _
  rw [sinT_mod _ _ hN]

theorem neg_sin_apply {a b N : ℕ} (hN : 0 < N) {x : FVec Ideal ⟨2, ![a, b]⟩ .f32}
    (hx : ∀ i j, x (ix2 i j) = (((i.val * j.val % N : ℕ) * (2 * Real.pi / N) : ℝ) : EReal)) (i : Fin a) (j : Fin b) :
    Host.negf (Host.sin x) (ix2 i j) = ((-sinT N (i.val * j.val) : ℝ) : EReal) := by
  show -(Host.sin x (ix2 i j)) = _
  rw [sin_apply hN hx, ← EReal.coe_neg]

/-! ## Side by side, and one above the other -/

/-- Two tables side by side. -/
theorem beside_apply {a b : ℕ} {N : ℕ} (hN : N = b + b) (x y : FVec Ideal ⟨2, ![a, b]⟩ .f32)
    (h : Shape.Concatenates [⟨2, ![a, b]⟩, ⟨2, ![a, b]⟩] ⟨2, ![a, N]⟩ 1) (i : Fin a) (j : Fin N) :
    concatenate ⟨2, ![a, N]⟩ 1 [⟨⟨2, ![a, b]⟩, x⟩, ⟨⟨2, ![a, b]⟩, y⟩] h (ix2 i j)
      = if hj : j.val < b then x (ix2 i ⟨j.val, hj⟩) else y (ix2 i ⟨j.val - b, by omega⟩) := by
  split
  · rename_i hj
    exact concatenate_pair_apply_left (t := ⟨2, ![a, N]⟩) (s₁ := ⟨2, ![a, b]⟩) (s₂ := ⟨2, ![a, b]⟩) (1 : Fin 2) x y h _ rfl
      (ix2 i ⟨j.val, hj⟩) fun e => match e with
        | ⟨0, _⟩ => rfl
        | ⟨1, _⟩ => rfl
  · exact concatenate_pair_apply_right (t := ⟨2, ![a, N]⟩) (s₁ := ⟨2, ![a, b]⟩) (s₂ := ⟨2, ![a, b]⟩) (1 : Fin 2) x y h _ rfl rfl
      (ix2 i ⟨j.val - b, by omega⟩) (fun e he => match e with
        | ⟨0, _⟩ => rfl
        | ⟨1, _⟩ => absurd rfl he) (by show j.val - b + b = j.val; omega)

/-- Two tables one above the other. -/
theorem above_apply {a b : ℕ} {N : ℕ} (hN : N = a + a) (x y : FVec Ideal ⟨2, ![a, b]⟩ .f32)
    (h : Shape.Concatenates [⟨2, ![a, b]⟩, ⟨2, ![a, b]⟩] ⟨2, ![N, b]⟩ 0) (i : Fin N) (j : Fin b) :
    concatenate ⟨2, ![N, b]⟩ 0 [⟨⟨2, ![a, b]⟩, x⟩, ⟨⟨2, ![a, b]⟩, y⟩] h (ix2 i j)
      = if hi : i.val < a then x (ix2 ⟨i.val, hi⟩ j) else y (ix2 ⟨i.val - a, by omega⟩ j) := by
  split
  · rename_i hi
    exact concatenate_pair_apply_left (t := ⟨2, ![N, b]⟩) (s₁ := ⟨2, ![a, b]⟩) (s₂ := ⟨2, ![a, b]⟩) (0 : Fin 2) x y h _ rfl
      (ix2 ⟨i.val, hi⟩ j) fun e => match e with
        | ⟨0, _⟩ => rfl
        | ⟨1, _⟩ => rfl
  · exact concatenate_pair_apply_right (t := ⟨2, ![N, b]⟩) (s₁ := ⟨2, ![a, b]⟩) (s₂ := ⟨2, ![a, b]⟩) (0 : Fin 2) x y h _ rfl rfl
      (ix2 ⟨i.val - a, by omega⟩ j) (fun e he => match e with
        | ⟨0, _⟩ => absurd rfl he
        | ⟨1, _⟩ => rfl) (by show i.val - a + a = i.val; omega)

/-! ## The transforms' tables -/

def full1 : FVec Ideal S16x32 .f32 :=
  concatenate S16x32 1 [⟨S16x16, Host.cos angle16⟩, ⟨S16x16, Host.negf (Host.sin angle16)⟩] concatenates_S16x16_S16x16_S16x32_d1

def full2 : FVec Ideal S256x256 .f32 :=
  concatenate S256x256 0
    [⟨S128x256, concatenate S128x256 1 [⟨S128x128, Host.cos angle128⟩, ⟨S128x128, Host.negf (Host.sin angle128)⟩] concatenates_S128x128_S128x128_S128x256_d1⟩,
     ⟨S128x256, concatenate S128x256 1 [⟨S128x128, Host.sin angle128⟩, ⟨S128x128, Host.cos angle128⟩] concatenates_S128x128_S128x128_S128x256_d1⟩]
    concatenates_S128x256_S128x256_S256x256_d0

def full2i : FVec Ideal S256x256 .f32 :=
  concatenate S256x256 0
    [⟨S128x256, concatenate S128x256 1 [⟨S128x128, Host.cos angle128⟩, ⟨S128x128, Host.sin angle128⟩] concatenates_S128x128_S128x128_S128x256_d1⟩,
     ⟨S128x256, concatenate S128x256 1 [⟨S128x128, Host.negf (Host.sin angle128)⟩, ⟨S128x128, Host.cos angle128⟩] concatenates_S128x128_S128x128_S128x256_d1⟩]
    concatenates_S128x256_S128x256_S256x256_d0

def full1i : FVec Ideal S32x16 .f32 :=
  Host.divf (concatenate S32x16 0 [⟨S16x16, Host.cos angle16⟩, ⟨S16x16, Host.negf (Host.sin angle16)⟩] concatenates_S16x16_S16x16_S32x16_d0)
    (broadcastInDim S32x16 ![] bcast_S_S32x16 (constant S_ .f32 0x45000000#32))

theorem full1_apply (k : Fin 16) (m : Fin 32) : full1 (ix2 k m) = ((W1F k m : ℝ) : EReal) := by
  refine (beside_apply (a := 16) (b := 16) rfl _ _ _ k m).trans ?_
  unfold W1F
  split
  · exact cos_apply (by norm_num) angle16_apply k _
  · exact neg_sin_apply (by norm_num) angle16_apply k _

theorem full2_apply (k m : Fin 256) : full2 (ix2 k m) = ((W2F k m : ℝ) : EReal) := by
  refine (above_apply (a := 128) (b := 256) rfl _ _ _ k m).trans ?_
  unfold W2F
  split
  · refine (beside_apply (a := 128) (b := 128) rfl _ _ _ _ m).trans ?_
    split
    · exact cos_apply (by norm_num) angle128_apply _ _
    · exact neg_sin_apply (by norm_num) angle128_apply _ _
  · refine (beside_apply (a := 128) (b := 128) rfl _ _ _ _ m).trans ?_
    split
    · exact sin_apply (by norm_num) angle128_apply _ _
    · exact cos_apply (by norm_num) angle128_apply _ _

theorem full2i_apply (k m : Fin 256) : full2i (ix2 k m) = ((W2I k m : ℝ) : EReal) := by
  refine (above_apply (a := 128) (b := 256) rfl _ _ _ k m).trans ?_
  unfold W2I
  split
  · refine (beside_apply (a := 128) (b := 128) rfl _ _ _ _ m).trans ?_
    split
    · exact cos_apply (by norm_num) angle128_apply _ _
    · exact sin_apply (by norm_num) angle128_apply _ _
  · refine (beside_apply (a := 128) (b := 128) rfl _ _ _ _ m).trans ?_
    split
    · exact neg_sin_apply (by norm_num) angle128_apply _ _
    · exact cos_apply (by norm_num) angle128_apply _ _

/-- A 2048th part. -/
theorem div2048 (x : EReal) (r : ℝ) (h : x = (r : EReal)) : Ideal.div x (Ideal.ofBits .f32 0x45000000#32) = ((r / 2048 : ℝ) : EReal) := by
  rw [lit2048, h, Ideal.div_coe (by norm_num), ← EReal.coe_mul]
  congr 1
  push_cast
  ring

theorem full1i_apply (k : Fin 32) (m : Fin 16) : full1i (ix2 k m) = ((W1I k m : ℝ) : EReal) := by
  unfold W1I
  have e : concatenate S32x16 0 [⟨S16x16, Host.cos angle16⟩, ⟨S16x16, Host.negf (Host.sin angle16)⟩]
      concatenates_S16x16_S16x16_S32x16_d0 (ix2 k m) = _ := above_apply (a := 16) (b := 16) rfl _ _ _ k m
  split
  · rename_i h
    refine div2048 _ _ (e.trans ?_)
    rw [dif_pos h]
    exact cos_apply (by norm_num) angle16_apply _ _
  · rename_i h
    refine div2048 _ _ (e.trans ?_)
    rw [dif_neg h]
    exact neg_sin_apply (by norm_num) angle16_apply _ _

/-! ## Three layers -/

/-- The high half, the low half and the high half again, one above the other. -/
theorem three_is3 {K N M : ℕ} (hN : N = 3 * K) (W : Fin K → Fin M → ℝ) (x y z : FVec Ideal ⟨2, ![K, M]⟩ .bf16)
    (h : Shape.Concatenates [⟨2, ![K, M]⟩, ⟨2, ![K, M]⟩, ⟨2, ![K, M]⟩] ⟨2, ![N, M]⟩ 0)
    (hx : ∀ k m, x (ix2 k m) = ((W k m : ℝ) : EReal)) (hy : ∀ k m, y (ix2 k m) = 0) :
    Is3 hN (concatenate ⟨2, ![N, M]⟩ 0 [⟨⟨2, ![K, M]⟩, x⟩, ⟨⟨2, ![K, M]⟩, y⟩, ⟨⟨2, ![K, M]⟩, z⟩] h) W := by
  refine ⟨fun k m => ?_, fun k m => ?_⟩
  · refine (concatenate_apply_piece (t := ⟨2, ![N, M]⟩) 0 [⟨⟨2, ![K, M]⟩, x⟩, ⟨⟨2, ![K, M]⟩, y⟩, ⟨⟨2, ![K, M]⟩, z⟩] h _ 0 (by simp)
      ⟨2, ![K, M]⟩ x rfl rfl 0 (by simp) (ix2 k m) (fun e he => ?_) ?_).trans (hx k m)
    · match e with
      | ⟨0, _⟩ => exact absurd rfl he
      | ⟨1, _⟩ => rfl
    · show 0 + k.val = k.val + K * 0; omega
  · refine (concatenate_apply_piece (t := ⟨2, ![N, M]⟩) 0 [⟨⟨2, ![K, M]⟩, x⟩, ⟨⟨2, ![K, M]⟩, y⟩, ⟨⟨2, ![K, M]⟩, z⟩] h _ 1 (by simp)
      ⟨2, ![K, M]⟩ y rfl rfl K (by simp) (ix2 k m) (fun e he => ?_) ?_).trans (hy k m)
    · match e with
      | ⟨0, _⟩ => exact absurd rfl he
      | ⟨1, _⟩ => rfl
    · show K + k.val = k.val + K * 1; omega

/-- What is left of a real table when its high half is taken away: nothing. -/
theorem low_zero {a b : ℕ} {x : FVec Ideal ⟨2, ![a, b]⟩ .f32} {W : Fin a → Fin b → ℝ} (hx : ∀ k m, x (ix2 k m) = ((W k m : ℝ) : EReal))
    (h h' : FTy.bf16.bits < FTy.f32.bits) (k : Fin a) (m : Fin b) :
    truncf (F := Ideal) .bf16 (subf x (extf .f32 (truncf .bf16 x h) h')) h (ix2 k m) = 0 := by
  show x (ix2 k m) - x (ix2 k m) = 0
  rw [hx, ← EReal.coe_sub, sub_self, EReal.coe_zero]

/-! ## The twiddles -/

def twid (x : FVec Ideal S128x16 .f32) : FVec Ideal S1x16x128 .f32 :=
  broadcastInDim S1x16x128 ![1, 2] bcast_S16x128_S1x16x128_1_2 (transpose S16x128 [1, 0] x transposes_S128x16_S16x128_1_0)

theorem twid_apply (x : FVec Ideal S128x16 .f32) (i : Fin 16) (j : Fin 128) : twid x (ix3 0 i j) = x (ix2 j i) := by
  refine (broadcastInDim_apply _ _ _ (ix3 0 i j) (ix2 i j) fun e => ?_).trans (transpose_apply [1, 0] x _ (ix2 i j) (ix2 j i) fun e => ?_)
  · match e with
    | ⟨0, _⟩ => rfl
    | ⟨1, _⟩ => rfl
  · match e with
    | ⟨0, _⟩ => rfl
    | ⟨1, _⟩ => rfl

end Cert.HostTables
-- ==== Proof.Entry.lean ====
/-
  What the kernel's windows hold when the kernel starts: the ten tables, and the three arguments with the time axis last, cut
  into 16 x 128.
-/
module

public import proofs.«01_k».proof.Proof.Gen.KernelIdeal.Frame
public import Idealize.ShloMosaic.Lib.StableHlo.Run
public import proofs.«01_k».proof.Proof.HostTables

@[expose] public section

set_option synthInstance.maxSize 4096

noncomputable section

namespace Cert.Entry

open Idealize.ShloMosaic Idealize.ShloMosaic.TcCoe Idealize.ShloMosaic.ValueIdx Cert.KernelIdeal Cert.KernelIdeal.Gen
open Cert.Stages Cert.Transforms Cert.HostTables

variable (m : (ℓ : Loc nD τ sig) → Buf (Elt Ideal) ℓ) (c : Dev nD)

/-- A concatenation of three pieces depends on nothing but the pieces. -/
theorem three_congr {s t : Shape} (d : Fin t.rank) {x x' y y' z z' : s.Idx → EReal} (h : Shape.Concatenates [s, s, s] t d)
    (hx : x = x') (hy : y = y') (hz : z = z') :
    concatenate t d [⟨s, x⟩, ⟨s, y⟩, ⟨s, z⟩] h = concatenate t d [⟨s, x'⟩, ⟨s, y'⟩, ⟨s, z'⟩] h := by
  subst hx hy hz; rfl

set_option maxHeartbeats 8000000 in
/-- The tables that are used as they are rounded, and the twiddles. -/
theorem plain_eq :
    (V m c main_v55 : S16x32.Idx → EReal) = truncf .bf16 full1 bitsLt_bf16_f32
    ∧ (V m c main_v60 : S256x256.Idx → EReal) = truncf .bf16 full2 bitsLt_bf16_f32
    ∧ (V m c main_v65 : S256x256.Idx → EReal) = truncf .bf16 full2i bitsLt_bf16_f32
    ∧ (V m c main_v70 : S32x16.Idx → EReal) = truncf .bf16 full1i bitsLt_bf16_f32
    ∧ (V m c main_v76 : S1x16x128.Idx → EReal) = twid (Host.cos angle2048)
    ∧ (V m c main_v78 : S1x16x128.Idx → EReal) = twid (Host.sin angle2048) := by
  unfold V V0
  refine ⟨?_, ?_, ?_, ?_, ?_, ?_⟩ <;>
  · simp only [List.flatten_cons, List.flatten_nil, List.append_nil, List.cons_append, List.nil_append]
    after_results_simp
    rfl

set_option maxHeartbeats 8000000 in
/-- The tables stacked in three pieces: the rounded one, what the rounding left, the rounded one again. -/
theorem three_eq :
    (V m c main_v59 : S48x32.Idx → EReal) = concatenate S48x32 0 [⟨S16x32, truncf (F := Ideal) .bf16 full1 bitsLt_bf16_f32⟩,
    ⟨S16x32, truncf (F := Ideal) .bf16 (subf full1 (extf .f32 (truncf .bf16 full1 bitsLt_bf16_f32) bitsLt_bf16_f32)) bitsLt_bf16_f32⟩,
    ⟨S16x32, truncf (F := Ideal) .bf16 full1 bitsLt_bf16_f32⟩] concatenates_S16x32_S16x32_S16x32_S48x32_d0
    ∧ (V m c main_v64 : S768x256.Idx → EReal) = concatenate S768x256 0 [⟨S256x256, truncf (F := Ideal) .bf16 full2 bitsLt_bf16_f32⟩,
    ⟨S256x256, truncf (F := Ideal) .bf16 (subf full2 (extf .f32 (truncf .bf16 full2 bitsLt_bf16_f32) bitsLt_bf16_f32)) bitsLt_bf16_f32⟩,
    ⟨S256x256, truncf (F := Ideal) .bf16 full2 bitsLt_bf16_f32⟩] concatenates_S256x256_S256x256_S256x256_S768x256_d0
    ∧ (V m c main_v69 : S768x256.Idx → EReal) = concatenate S768x256 0 [⟨S256x256, truncf (F := Ideal) .bf16 full2i bitsLt_bf16_f32⟩,
    ⟨S256x256, truncf (F := Ideal) .bf16 (subf full2i (extf .f32 (truncf .bf16 full2i bitsLt_bf16_f32) bitsLt_bf16_f32)) bitsLt_bf16_f32⟩,
    ⟨S256x256, truncf (F := Ideal) .bf16 full2i bitsLt_bf16_f32⟩] concatenates_S256x256_S256x256_S256x256_S768x256_d0
    ∧ (V m c main_v74 : S96x16.Idx → EReal) = concatenate S96x16 0 [⟨S32x16, truncf (F := Ideal) .bf16 full1i bitsLt_bf16_f32⟩,
    ⟨S32x16, truncf (F := Ideal) .bf16 (subf full1i (extf .f32 (truncf .bf16 full1i bitsLt_bf16_f32) bitsLt_bf16_f32)) bitsLt_bf16_f32⟩,
    ⟨S32x16, truncf (F := Ideal) .bf16 full1i bitsLt_bf16_f32⟩] concatenates_S32x16_S32x16_S32x16_S96x16_d0 := by
  unfold V V0
  refine ⟨?_, ?_, ?_, ?_⟩ <;>
  · simp only [List.flatten_cons, List.flatten_nil, List.append_nil, List.cons_append, List.nil_append]
    after_results_simp
    refine three_congr _ _ ?_ ?_ ?_ <;>
    · show HloOp.result _ _ _ = _
      dsimp only [Matrix.cons_val]
      after_results_simp
      rfl

/-- The ten tables are the ones that the transforms need. -/
theorem tables : Tables (V m c main_v55) (V m c main_v59) (V m c main_v60) (V m c main_v64) (V m c main_v65) (V m c main_v69)
    (V m c main_v70) (V m c main_v74) (V m c main_v76) (V m c main_v78) where
  w1f k n := (congrFun (plain_eq m c).1 (ix2 k n)).trans (full1_apply k n)
  w1f3 := by
    rw [(three_eq m c).1]
    exact three_is3 (K := 16) rfl W1F _ _ _ _ full1_apply (low_zero full1_apply _ _)
  w2f k n := (congrFun (plain_eq m c).2.1 (ix2 k n)).trans (full2_apply k n)
  w2f3 := by
    rw [(three_eq m c).2.1]
    exact three_is3 (K := 256) rfl W2F _ _ _ _ full2_apply (low_zero full2_apply _ _)
  w2i k n := (congrFun (plain_eq m c).2.2.1 (ix2 k n)).trans (full2i_apply k n)
  w2i3 := by
    rw [(three_eq m c).2.2.1]
    exact three_is3 (K := 256) rfl W2I _ _ _ _ full2i_apply (low_zero full2i_apply _ _)
  w1i k n := (congrFun (plain_eq m c).2.2.2.1 (ix2 k n)).trans (full1i_apply k n)
  w1i3 := by
    rw [(three_eq m c).2.2.2]
    exact three_is3 (K := 32) rfl W1I _ _ _ _ full1i_apply (low_zero full1i_apply _ _)
  tc i j := (congrFun (plain_eq m c).2.2.2.2.1 (ix3 0 i j)).trans ((twid_apply _ i j).trans (cos_apply (by norm_num) angle2048_apply j i))
  ts i j := (congrFun (plain_eq m c).2.2.2.2.2 (ix3 0 i j)).trans ((twid_apply _ i j).trans (sin_apply (by norm_num) angle2048_apply j i))

/-! ## The arguments, channel by channel -/

/-- An argument with the time axis last, cut into 16 x 128: one row for each channel. -/
def chan (x : S4x2048x16x64.Idx → EReal) : S4096x16x128.Idx → EReal :=
  shapeCast S4096x16x128 (transpose S4x16x64x2048 [0, 2, 3, 1] x transposes_S4x2048x16x64_S4x16x64x2048_0_2_3_1)
    shapeCasts_S4x16x64x2048_S4096x16x128

set_option maxHeartbeats 8000000 in
/-- The three arguments. -/
theorem args_eq :
    (V m c main_v80 : S4096x16x128.Idx → EReal) = chan (m ⟨c, Proc.devRef .tc main_arg0⟩)
    ∧ (V m c main_v82 : S4096x16x128.Idx → EReal) = chan (m ⟨c, Proc.devRef .tc main_arg1⟩)
    ∧ (V m c main_v84 : S4096x16x128.Idx → EReal) = chan (m ⟨c, Proc.devRef .tc main_arg2⟩) := by
  unfold V V0
  refine ⟨?_, ?_, ?_⟩ <;>
  · simp only [List.flatten_cons, List.flatten_nil, List.append_nil, List.cons_append, List.nil_append]
    after_results_simp
    rfl

theorem chan_apply (x : S4x2048x16x64.Idx → EReal) (b : Fin 4) (h : Fin 16) (e : Fin 64) (i : Fin 16) (j : Fin 128) :
    chan x (ix3 (⟨(b.val * 16 + h.val) * 64 + e.val, by omega⟩ : Fin 4096) i j)
      = x (ix4 b (⟨128 * i.val + j.val, by omega⟩ : Fin 2048) h e) := by
  refine (shapeCast_apply _ _ _ (ix4 b h e (⟨128 * i.val + j.val, by omega⟩ : Fin 2048)) ?_).trans
    (transpose_apply [0, 2, 3, 1] x _ _ (ix4 b (⟨128 * i.val + j.val, by omega⟩ : Fin 2048) h e) fun a => ?_)
  · rw [Shape.rowMajor_val_three, Shape.rowMajor_val_four]
    show ((b.val * 16 + h.val) * 64 + e.val) * 2048 + (128 * i.val + j.val)
      = (((b.val * 16 + h.val) * 64 + e.val) * 16 + i.val) * 128 + j.val
    omega
  · match a with
    | ⟨0, _⟩ => rfl
    | ⟨1, _⟩ => rfl
    | ⟨2, _⟩ => rfl
    | ⟨3, _⟩ => rfl

end Cert.Entry
-- ==== Proof.Order.lean ====
/-
  The positions of a row in the order in which a stable descending sort puts them, and the same positions found by repeated
  maximum: at round `i` the largest entry not yet taken sits, at its first position, where the sort's `i`-th position is.
-/
module

public import Mathlib.Data.EReal.Basic
public import Idealize.ShloMosaic.PureOps.Ideal
public import Idealize.ShloMosaic.Lib.SortFacts

@[expose] public section

noncomputable section

namespace Cert.Order

open Idealize.ShloMosaic

/-- Putting `a` into a sorted list all of whose elements have a larger index keeps the list sorted and keeps equal elements in
    index order. -/
theorem pairwise_insert {n : ℕ} (B : Fin n → Fin n → Bool) (has : ∀ a b, B a b = true → B b a = false)
    (hnt : ∀ a b c, B a b = false → B b c = false → B a c = false) (a : Fin n) (l : List (Fin n)) (ha : ∀ b ∈ l, a < b)
    (hl : l.Pairwise fun b c => B c b = false ∧ (B b c = false → b < c)) :
    (insertBefore B a l).Pairwise fun b c => B c b = false ∧ (B b c = false → b < c) := by
  induction l with
  | nil => exact List.pairwise_singleton _ _
  | cons b l ih =>
    rw [List.pairwise_cons] at hl
    unfold insertBefore
    split
    · rename_i hba
      refine List.pairwise_cons.mpr ⟨fun c hc => ?_, ih (fun c hc => ha c (List.mem_cons_of_mem b hc)) hl.2⟩
      rcases List.mem_cons.mp ((perm_insertBefore B a l).mem_iff.mp hc) with rfl | hc'
      · exact ⟨has _ _ hba, fun h => absurd (hba.symm.trans h) (by decide)⟩
      · exact hl.1 c hc'
    · rename_i hba
      have hba' : B b a = false := by simpa using hba
      refine List.pairwise_cons.mpr ⟨fun c hc => ?_, List.pairwise_cons.mpr hl⟩
      rcases List.mem_cons.mp hc with rfl | hc'
      · exact ⟨hba', fun _ => ha _ hc⟩
      · exact ⟨hnt c b a (hl.1 c hc').1 hba', fun _ => ha c hc⟩

/-- The stable sort of an increasing list is sorted, equal elements in index order. -/
theorem pairwise_sort {n : ℕ} (B : Fin n → Fin n → Bool) (has : ∀ a b, B a b = true → B b a = false)
    (hnt : ∀ a b c, B a b = false → B b c = false → B a c = false) (l : List (Fin n)) (hl : l.Pairwise (· < ·)) :
    (stableSort B l).Pairwise fun b c => B c b = false ∧ (B b c = false → b < c) := by
  induction l with
  | nil => exact List.Pairwise.nil
  | cons a l ih =>
    rw [List.pairwise_cons] at hl
    unfold stableSort
    exact pairwise_insert B has hnt a _ (fun b hb => hl.1 b ((perm_stableSort B l).mem_iff.mp hb)) (ih hl.2)

variable {n : ℕ} (f : Fin n → EReal)

/-- The position whose entry the stable descending sort of `f` puts at `i`. -/
def order : Fin n → Fin n := sortedFrom fun a b => decide (f b < f a)

/-- The sort is a rearrangement: every position is taken once. -/
theorem order_injective : Function.Injective (order f) := sortedFrom_injective _

/-- Every position is taken. -/
theorem order_surjective : Function.Surjective (order f) := sortedFrom_surjective _

/-- Later entries of the sort are not larger, and of equal ones the lower position comes first. -/
theorem order_sorted (i j : Fin n) (hij : i < j) :
    f (order f j) ≤ f (order f i) ∧ (f (order f j) = f (order f i) → order f i < order f j) := by
  have hp := List.pairwise_iff_get.mp (pairwise_sort (fun a b : Fin n => decide (f b < f a))
    (fun a b h => by simpa using le_of_lt (of_decide_eq_true h))
    (fun a b c h h' => by
      simp only [decide_eq_false_iff_not, not_lt] at h h' ⊢
      exact le_trans h h') (List.finRange n) (List.pairwise_lt_finRange n))
  have h := hp (i.cast (length_sortPositions n _).symm) (j.cast (length_sortPositions n _).symm) hij
  simp only [decide_eq_false_iff_not, not_lt] at h
  exact ⟨h.1, fun e => h.2 (le_of_eq e.symm)⟩

/-- The row with the sort's first `i` positions struck out (set to −∞). -/
def rest : ℕ → Fin n → EReal
  | 0 => f
  | i + 1 => if h : i < n then Function.update (rest i) (order f ⟨i, h⟩) ⊥ else rest i

/-- The sort's `j`-th position is struck out after round `i` exactly when `j < i`. -/
theorem rest_order (i : ℕ) (j : Fin n) : rest f i (order f j) = if j.val < i then ⊥ else f (order f j) := by
  induction i with
  | zero => simp [rest]
  | succ i ih =>
    unfold rest
    split
    · rename_i h
      by_cases e : j = ⟨i, h⟩
      · subst e; simp
      · rw [Function.update_of_ne (fun h' => e (order_injective f h')), ih]
        have : j.val ≠ i := fun h' => e (Fin.ext h')
        exact if_congr (by omega) rfl rfl
    · rw [ih]; exact if_congr (by have := j.isLt; omega) rfl rfl

/-- At round `i` the sort's `i`-th position still holds its entry. -/
theorem rest_self (i : Fin n) : rest f i (order f i) = f (order f i) := by
  rw [rest_order, if_neg (lt_irrefl _)]

/-- At round `i` no entry exceeds the sort's `i`-th. -/
theorem rest_le (i t : Fin n) : rest f i t ≤ f (order f i) := by
  obtain ⟨j, rfl⟩ := order_surjective f t
  rw [rest_order]
  split
  · exact bot_le
  · rename_i h
    rcases eq_or_lt_of_le (not_lt.mp h) with e | e
    · rw [Fin.ext e]
    · exact (order_sorted f i j e).1

/-- At round `i` the sort's `i`-th position is the first that holds the largest entry. -/
theorem rest_first (hf : ∀ t, f t ≠ ⊥) (i t : Fin n) (h : rest f i t = f (order f i)) : order f i ≤ t := by
  obtain ⟨j, rfl⟩ := order_surjective f t
  rw [rest_order] at h
  split at h
  · exact absurd h.symm (hf _)
  · rename_i h'
    rcases eq_or_lt_of_le (not_lt.mp h') with e | e
    · rw [Fin.ext e]
    · exact le_of_lt ((order_sorted f i j e).2 h)

end Cert.Order
-- ==== Proof.Rounds.lean ====
/-
  The kernel's selection rounds on one block: the largest entry of each channel, the first position that holds it, and the
  block with that position struck out; then the softmax weights put at the selected positions.
-/
module

public import proofs.«01_k».proof.Proof.Gen.KernelIdeal
public import proofs.«01_k».proof.Proof.Layout
public import proofs.«01_k».proof.Proof.Order

@[expose] public section

set_option synthInstance.maxSize 4096

noncomputable section

namespace Cert.Rounds

open Idealize.ShloMosaic Idealize.ShloMosaic.ValueIdx Cert.KernelIdeal Cert.KernelIdeal.Gen Cert.Layout

/-- The position that the coarse part `a` and the fine part `b` stand for. -/
def at2 (a : Fin 16) (b : Fin 128) : Fin 2048 := ⟨128 * a.val + b.val, by omega⟩

/-- Every position has a coarse and a fine part. -/
theorem at2_surj (t : Fin 2048) : ∃ a b, at2 a b = t :=
  ⟨⟨t.val / 128, by omega⟩, ⟨t.val % 128, by omega⟩, Fin.ext (Nat.div_add_mod t.val 128)⟩

/-- Channel `c` of the block `x` is the row `f`. -/
def Row (x : FVec Ideal S128x16x128 .f32) (c : Fin 128) (f : Fin 2048 → EReal) : Prop := ∀ a b, x (ix3 c a b) = f (at2 a b)

/-! ## The printed operations -/

/-- Each entry's position. -/
def tau : IVec S128x16x128 32 :=
  addi (muli (broadcast S128x16x128 128#32) (iota .tc S128x16x128 32 [1] iota_S128x16x128_d1_w32))
    (iota .tc S128x16x128 32 [2] iota_S128x16x128_d2_w32)

/-- The largest entry of each channel. -/
def mx (x : FVec Ideal S128x16x128 .f32) : FVec Ideal S128x1x1 .f32 :=
  shapeCast S128x1x1 (multiReduction .maximumf [2] S128x1
    (shapeCast S128x1x128 (multiReduction .maximumf [1] S128x128 x 0xFF800000#32 reduces_S128x16x128_S128x128 (.inl rfl) rfl)
      shapeCasts_S128x128_S128x1x128) 0xFF800000#32 reduces_S128x1x128_S128x1 (.inl rfl) rfl) shapeCasts_S128x1_S128x1x1

/-- The smallest entry of each channel of an integer block. -/
def mn (y : IVec S128x16x128 32) : IVec S128x1x1 32 :=
  shapeCast S128x1x1 (multiReductionI .minsi [2] S128x1
    (shapeCast S128x1x128 (multiReductionI .minsi [1] S128x128 y 2147483647#32 reduces_S128x16x128_S128x128 rfl)
      shapeCasts_S128x128_S128x1x128) 2147483647#32 reduces_S128x1x128_S128x1 rfl) shapeCasts_S128x1_S128x1x1

/-- The first position that holds each channel's largest entry. -/
def first (x : FVec Ideal S128x16x128 .f32) : IVec S128x1x1 32 :=
  mn (select (cmpf .oeq x (broadcastTo S128x16x128 (mx x) broadcasts_S128x1x1_S128x16x128)) tau (broadcast S128x16x128 2048#32))

/-- The block with that position struck out. -/
def strike (x : FVec Ideal S128x16x128 .f32) : FVec Ideal S128x16x128 .f32 :=
  select (cmpi .eq tau (broadcastTo S128x16x128 (first x) broadcasts_S128x1x1_S128x16x128))
    (broadcast S128x16x128 (Scalar.ofBits .f32 0xFF800000#32)) x

/-! ## Their readings -/

/-- The literal that a struck-out entry holds is −∞. -/
theorem negInf : (FloatOps.ofBits .f32 0xFF800000#32 : Ideal .f32) = (⊥ : EReal) := by
  show Ideal.ofBits .f32 0xFF800000#32 = ⊥
  simp [Ideal.ofBits, Ideal.ieee]

theorem tau_apply (c : Fin 128) (a : Fin 16) (b : Fin 128) : tau (ix3 c a b) = BitVec.ofNat 32 (at2 a b).val := by
  unfold tau
  show 128#32 * BitVec.ofNat 32 (0 * 16 + a.val) + BitVec.ofNat 32 (0 * 128 + b.val) = _
  unfold at2
  rw [Nat.zero_mul, Nat.zero_add, Nat.zero_add, ← BitVec.ofNat_mul, ← BitVec.ofNat_add]

theorem lift_mid (c b : Fin 128) (a : Fin 16) : reduces_S128x16x128_S128x128.lift (ix2 c b) a = ix3 c a b := by
  funext e
  match e with
  | ⟨0, _⟩ => rfl
  | ⟨1, _⟩ => rfl
  | ⟨2, _⟩ => rfl

theorem lift_last (c b : Fin 128) : reduces_S128x1x128_S128x1.lift (ix2 c (0 : Fin 1)) b = ix3 c (0 : Fin 1) b := by
  funext e
  match e with
  | ⟨0, _⟩ => rfl
  | ⟨1, _⟩ => rfl
  | ⟨2, _⟩ => rfl

/-- A per-channel reduction, read back at rank 3. -/
theorem cast_chan {α : Type} (x : S128x1.Idx → α) (c : Fin 128) :
    shapeCast S128x1x1 x shapeCasts_S128x1_S128x1x1 (ix3 c 0 0) = x (ix2 c 0) :=
  shapeCast_apply x _ _ _ (by
    rw [Shape.rowMajor_val_two, Shape.rowMajor_val_three]
    show c.val * 1 + 0 = (c.val * 1 + 0) * 1 + 0
    omega)

theorem cast_row {α : Type} (x : S128x128.Idx → α) (c b : Fin 128) :
    shapeCast S128x1x128 x shapeCasts_S128x128_S128x1x128 (ix3 c 0 b) = x (ix2 c b) :=
  shapeCast_apply x _ _ _ (by
    rw [Shape.rowMajor_val_two, Shape.rowMajor_val_three]
    show c.val * 128 + b.val = (c.val * 1 + 0) * 128 + b.val
    omega)

variable {x : FVec Ideal S128x16x128 .f32} {c : Fin 128} {f : Fin 2048 → EReal} {M : EReal} {t₀ : Fin 2048}

theorem max_mid (x : FVec Ideal S128x16x128 .f32) (c b : Fin 128) :
    multiReduction .maximumf [1] S128x128 x 0xFF800000#32 reduces_S128x16x128_S128x128 (.inl rfl) rfl (ix2 c b)
      = (Finset.univ : Finset (Fin 16)).fold max (⊥ : EReal) fun a => x (ix3 c a b) := by
  refine (Ideal.multiReduction_maximumf_single x _ reduces_S128x16x128_S128x128 _ _ _).trans ?_
  have e : (x ∘ reduces_S128x16x128_S128x128.lift (ix2 c b)) = fun a : Fin 16 => x (ix3 c a b) :=
    funext fun a => congrArg x (lift_mid c b a)
  rw [e, negInf]
  rfl

theorem max_last (x : FVec Ideal S128x1x128 .f32) (c : Fin 128) :
    multiReduction .maximumf [2] S128x1 x 0xFF800000#32 reduces_S128x1x128_S128x1 (.inl rfl) rfl (ix2 c 0)
      = (Finset.univ : Finset (Fin 128)).fold max (⊥ : EReal) fun b => x (ix3 c 0 b) := by
  refine (Ideal.multiReduction_maximumf_single x _ reduces_S128x1x128_S128x1 _ _ _).trans ?_
  have e : (x ∘ reduces_S128x1x128_S128x1.lift (ix2 c 0)) = fun b : Fin 128 => x (ix3 c 0 b) :=
    funext fun b => congrArg x (lift_last c b)
  rw [e, negInf]
  rfl

theorem min_mid (y : IVec S128x16x128 32) (c b : Fin 128) :
    multiReductionI .minsi [1] S128x128 y 2147483647#32 reduces_S128x16x128_S128x128 rfl (ix2 c b)
      = (Finset.univ : Finset (Fin 16)).fold IntOp.minsi 2147483647#32 fun a => y (ix3 c a b) := by
  refine (multiReductionI_eq_fold _ y _ reduces_S128x16x128_S128x128 _ _).trans
    ((Shape.Reduces.fold_filter_drop_single reduces_S128x16x128_S128x128 _ _ y _).trans ?_)
  have e : (y ∘ reduces_S128x16x128_S128x128.lift (ix2 c b)) = fun a : Fin 16 => y (ix3 c a b) :=
    funext fun a => congrArg y (lift_mid c b a)
  rw [e]
  rfl

theorem min_last (y : IVec S128x1x128 32) (c : Fin 128) :
    multiReductionI .minsi [2] S128x1 y 2147483647#32 reduces_S128x1x128_S128x1 rfl (ix2 c 0)
      = (Finset.univ : Finset (Fin 128)).fold IntOp.minsi 2147483647#32 fun b => y (ix3 c 0 b) := by
  refine (multiReductionI_eq_fold _ y _ reduces_S128x1x128_S128x1 _ _).trans
    ((Shape.Reduces.fold_filter_drop_single reduces_S128x1x128_S128x1 _ _ y _).trans ?_)
  have e : (y ∘ reduces_S128x1x128_S128x1.lift (ix2 c 0)) = fun b : Fin 128 => y (ix3 c 0 b) :=
    funext fun b => congrArg y (lift_last c b)
  rw [e]
  rfl

/-- The maximum read as a fold over the fine part of folds over the coarse part. -/
theorem mx_eq (hx : Row x c f) : mx x (ix3 c 0 0) = (Finset.univ : Finset (Fin 128)).fold max (⊥ : EReal)
    fun b => (Finset.univ : Finset (Fin 16)).fold max (⊥ : EReal) fun a => f (at2 a b) := by
  unfold mx
  rw [cast_chan]
  refine (max_last _ c).trans (congrArg (fun g => Finset.fold max (⊥ : EReal) g Finset.univ) (funext fun b => ?_))
  rw [cast_row]
  refine (max_mid x c b).trans (congrArg (fun g => Finset.fold max (⊥ : EReal) g Finset.univ) (funext fun a => ?_))
  exact hx a b

/-- The maximum is the row's largest entry. -/
theorem mx_apply (hx : Row x c f) (hle : ∀ t, f t ≤ M) (hat : f t₀ = M) : mx x (ix3 c 0 0) = M := by
  rw [mx_eq hx]
  obtain ⟨a, b, rfl⟩ := at2_surj t₀
  refine le_antisymm ?_ ?_
  · refine Finset.fold_max_le _ |>.mpr ⟨bot_le, fun b _ => Finset.fold_max_le _ |>.mpr ⟨bot_le, fun a _ => hle _⟩⟩
  · refine Finset.le_fold_max _ |>.mpr (Or.inr ⟨b, Finset.mem_univ _, Finset.le_fold_max _ |>.mpr (Or.inr ⟨a, Finset.mem_univ _, ?_⟩)⟩)
    exact ge_of_eq hat

/-- The signed minimum of words below `2³¹` is that of their values. -/
theorem minsi_ofNat (p q : ℕ) (hp : p < 2 ^ 31) (hq : q < 2 ^ 31) :
    IntOp.minsi (BitVec.ofNat 32 p) (BitVec.ofNat 32 q) = BitVec.ofNat 32 (min p q) := by
  have e : ∀ n : ℕ, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  have l : (BitVec.ofNat 32 p).slt (BitVec.ofNat 32 q) = true ↔ p < q := by
    rw [BitVec.slt_iff_toInt_lt, e p hp, e q hq]
    exact Int.ofNat_lt
  unfold IntOp.minsi
  rcases Nat.lt_or_ge p q with h | h
  · rw [if_pos (l.mpr h), min_eq_left (le_of_lt h)]
  · rw [if_neg (fun h' => not_lt.mpr h (l.mp h')), min_eq_right h]

/-- A fold of the signed minimum over words below `2³¹` is the word of the fold of their values. -/
theorem fold_minsi {ι : Type} (s : Finset ι) (g : ι → ℕ) (hg : ∀ i, g i < 2 ^ 31) :
    s.fold IntOp.minsi 2147483647#32 (fun i => BitVec.ofNat 32 (g i)) = BitVec.ofNat 32 (s.fold min 2147483647 g)
      ∧ s.fold min 2147483647 g < 2 ^ 31 := by
  classical
  induction s using Finset.induction_on with
  | empty => exact ⟨rfl, by norm_num⟩
  | insert a s ha ih =>
    rw [Finset.fold_insert ha, Finset.fold_insert ha, ih.1, minsi_ofNat _ _ (hg a) ih.2]
    exact ⟨rfl, lt_of_le_of_lt (min_le_left _ _) (hg a)⟩

/-- The minimum over a channel of words below `2³¹`. -/
theorem mn_eq {y : IVec S128x16x128 32} (g : Fin 16 → Fin 128 → ℕ) (hg : ∀ a b, g a b < 2 ^ 31)
    (hy : ∀ a b, y (ix3 c a b) = BitVec.ofNat 32 (g a b)) :
    mn y (ix3 c 0 0) = BitVec.ofNat 32 ((Finset.univ : Finset (Fin 128)).fold min 2147483647
      fun b => (Finset.univ : Finset (Fin 16)).fold min 2147483647 fun a => g a b) := by
  unfold mn
  rw [cast_chan]
  refine (min_last _ c).trans (Eq.trans ?_
    (fold_minsi Finset.univ _ fun b => (fold_minsi Finset.univ (fun a => g a b) fun a => hg a b).2).1)
  refine congrArg (fun h => Finset.fold IntOp.minsi 2147483647#32 h Finset.univ) (funext fun b => ?_)
  rw [cast_row]
  refine (min_mid y c b).trans (Eq.trans ?_ (fold_minsi Finset.univ (fun a => g a b) fun a => hg a b).1)
  refine congrArg (fun h => Finset.fold IntOp.minsi 2147483647#32 h Finset.univ) (funext fun a => ?_)
  exact hy a b

/-- The first position that holds the row's largest entry. -/
theorem first_apply (hx : Row x c f) (hle : ∀ t, f t ≤ M) (hat : f t₀ = M) (hfst : ∀ t, f t = M → t₀ ≤ t) :
    first x (ix3 c 0 0) = BitVec.ofNat 32 t₀.val := by
  classical
  have hm : mx x (ix3 c 0 0) = M := mx_apply hx hle hat
  unfold first
  rw [mn_eq (fun a b => if f (at2 a b) = M then (at2 a b).val else 2048) (fun a b => by
    split
    · have := (at2 a b).isLt; omega
    · norm_num) (fun a b => ?_)]
  · refine congrArg (BitVec.ofNat 32) (le_antisymm ?_ ?_)
    · obtain ⟨a, b, rfl⟩ := at2_surj t₀
      refine Finset.fold_min_le _ |>.mpr (Or.inr ⟨b, Finset.mem_univ _, Finset.fold_min_le _ |>.mpr (Or.inr ⟨a, Finset.mem_univ _, ?_⟩)⟩)
      rw [if_pos hat]
    · have h0 : t₀.val ≤ 2147483647 := by have := t₀.isLt; omega
      refine Finset.le_fold_min _ |>.mpr ⟨h0, fun b _ => Finset.le_fold_min _ |>.mpr ⟨h0, fun a _ => ?_⟩⟩
      split
      · rename_i h; exact hfst _ h
      · exact le_of_lt t₀.isLt
  · rw [select_apply, cmpf_apply, bcastChan_apply _ _ (by decide), hm, hx a b, tau_apply]
    show Scalar.select (Ideal.cmp .oeq (f (at2 a b)) M) _ _ = _
    unfold Ideal.cmp
    by_cases h : f (at2 a b) = M
    · rw [if_pos h]; simp [h, Scalar.select]
    · rw [if_neg h]; simp [h, Scalar.select]; rfl

/-- Two positions are equal as words exactly when they are equal. -/
theorem word_eq (s t : Fin 2048) : IntOp.cmpi .eq (BitVec.ofNat 32 s.val) (BitVec.ofNat 32 t.val) = if s = t then 1#1 else 0#1 := by
  have e : BitVec.ofNat 32 s.val = BitVec.ofNat 32 t.val ↔ s = t := by
    constructor
    · intro h
      have h' := congrArg BitVec.toNat h
      rw [BitVec.toNat_ofNat, BitVec.toNat_ofNat, Nat.mod_eq_of_lt (by omega), Nat.mod_eq_of_lt (by omega)] at h'
      exact Fin.ext h'
    · rintro rfl; rfl
  unfold IntOp.cmpi
  by_cases h : s = t
  · subst h; simp
  · rw [if_neg h, beq_eq_false_iff_ne.mpr (fun h' => h (e.mp h'))]; rfl

/-- Striking out replaces the selected position's entry by −∞. -/
theorem strike_apply (hx : Row x c f) (hf : first x (ix3 c 0 0) = BitVec.ofNat 32 t₀.val) :
    Row (strike x) c (Function.update f t₀ ⊥) := by
  intro a b
  unfold strike
  rw [select_apply]
  show Scalar.select (IntOp.cmpi .eq (tau (ix3 c a b)) (broadcastTo S128x16x128 (first x) broadcasts_S128x1x1_S128x16x128 (ix3 c a b)))
    (FloatOps.ofBits .f32 0xFF800000#32) _ = _
  rw [bcastChan_apply _ _ (by decide), hf, tau_apply, word_eq, negInf, hx a b]
  by_cases h : at2 a b = t₀
  · rw [if_pos h, h, Function.update_self]; rfl
  · rw [if_neg h, Function.update_of_ne h]; rfl

/-! ## The rounds -/

/-- The block after `i` rounds. -/
def rounds (x : FVec Ideal S128x16x128 .f32) : ℕ → FVec Ideal S128x16x128 .f32
  | 0 => x
  | i + 1 => strike (rounds x i)

open Cert.Order

/-- After `i` rounds each channel is its row with the sort's first `i` positions struck out, and round `i` finds the sort's `i`-th
    position and its entry. -/
theorem rounds_spec (hx : Row x c f) (hf : ∀ t, f t ≠ ⊥) (i : ℕ) (hi : i < 2048) :
    Row (rounds x i) c (rest f i) ∧ mx (rounds x i) (ix3 c 0 0) = f (order f ⟨i, hi⟩)
      ∧ first (rounds x i) (ix3 c 0 0) = BitVec.ofNat 32 (order f ⟨i, hi⟩).val := by
  have step : ∀ j (hj : j < 2048), Row (rounds x j) c (rest f j) →
      mx (rounds x j) (ix3 c 0 0) = f (order f ⟨j, hj⟩)
        ∧ first (rounds x j) (ix3 c 0 0) = BitVec.ofNat 32 (order f ⟨j, hj⟩).val := fun j hj h =>
    ⟨mx_apply h (rest_le f ⟨j, hj⟩) (rest_self f ⟨j, hj⟩),
      first_apply h (rest_le f ⟨j, hj⟩) (rest_self f ⟨j, hj⟩) (rest_first f hf ⟨j, hj⟩)⟩
  have row : ∀ j (hj : j < 2048), Row (rounds x j) c (rest f j) := by
    intro j
    induction j with
    | zero => exact fun _ => hx
    | succ j ih =>
      intro hj
      have hj' : j < 2048 := by omega
      have h := strike_apply (ih hj') (step j hj' (ih hj')).2
      show Row (strike (rounds x j)) c _
      unfold rest
      rw [dif_pos hj']
      exact h
  exact ⟨row i hi, step i hi (row i hi)⟩

end Cert.Rounds
-- ==== Proof.Weights.lean ====
/-
  The block of softmax weights that the kernel puts at the selected positions, and its reading over the reals.
-/
module

public import proofs.«01_k».proof.Proof.Gen.KernelIdeal.Skeleton
public import proofs.«01_k».proof.Proof.Stages
public import proofs.«01_k».proof.Proof.Rounds

@[expose] public section

set_option synthInstance.maxSize 4096

noncomputable section

namespace Cert.Weights

open Idealize.ShloMosaic Idealize.ShloMosaic.ValueIdx Cert.KernelIdeal Cert.KernelIdeal.Gen Cert.Layout Cert.Rounds Cert.Stages Cert.Order

/-! ## Over the reals -/

/-- A real sequence as extended reals. -/
abbrev ext (F : Fin 2048 → ℝ) (t : Fin 2048) : EReal := (F t : EReal)

/-- The position of the `i`-th largest of the sequence's values. -/
def pick (F : Fin 2048 → ℝ) (i : Fin 7) : Fin 2048 := order (ext F) ⟨i.val, by omega⟩

/-- Distinct ranks have distinct positions. -/
theorem pick_injective (F : Fin 2048 → ℝ) : Function.Injective (pick F) := fun i j h => by
  have h' := order_injective (ext F) h
  exact Fin.ext (Fin.mk.inj h')

/-- The exponential of the `i`-th largest value, shifted by the largest. -/
def topE (F : Fin 2048 → ℝ) (i : Fin 7) : ℝ := Real.exp (F (pick F i) - F (pick F 0))

/-- The softmax weight of the `i`-th largest value among the seven largest. -/
def topW (F : Fin 2048 → ℝ) (i : Fin 7) : ℝ := topE F i / ∑ j, topE F j

/-- The sequence that holds each weight at its position and zero elsewhere. -/
def wts (F : Fin 2048 → ℝ) (t : Fin 2048) : ℝ := ∑ i : Fin 7, if t = pick F i then topW F i else 0

/-- The weights' denominator is positive. -/
theorem den_pos (F : Fin 2048 → ℝ) : 0 < ∑ j, topE F j :=
  Finset.sum_pos (fun j _ => Real.exp_pos _) ⟨0, Finset.mem_univ _⟩

/-- A sum against the placed weights is the sum over the seven positions. -/
theorem sum_wts (F g : Fin 2048 → ℝ) : ∑ u, g u * wts F u = ∑ i : Fin 7, topW F i * g (pick F i) := by
  unfold wts
  simp only [Finset.mul_sum]
  rw [Finset.sum_comm]
  refine Finset.sum_congr rfl fun i _ => ?_
  rw [Finset.sum_eq_single (pick F i) (fun u _ hu => by rw [if_neg hu, mul_zero]) (fun h => absurd (Finset.mem_univ _) h), if_pos rfl,
    mul_comm]

/-! ## The printed operations -/

/-- Round `i`'s exponential. -/
def expo (x : FVec Ideal S128x16x128 .f32) (i : ℕ) : FVec Ideal S128x1x1 .f32 := exp (subf (mx (rounds x i)) (mx x))

/-- The denominator, in the printed association. -/
def den (x : FVec Ideal S128x16x128 .f32) : FVec Ideal S128x1x1 .f32 :=
  addf (addf (addf (addf (addf (addf (expo x 0) (expo x 1)) (expo x 2)) (expo x 3)) (expo x 4)) (expo x 5)) (expo x 6)

/-- Round `i`'s weight at its position, zero elsewhere. -/
def place (x : FVec Ideal S128x16x128 .f32) (i : ℕ) : FVec Ideal S128x16x128 .f32 :=
  select (cmpi .eq tau (broadcastTo S128x16x128 (first (rounds x i)) broadcasts_S128x1x1_S128x16x128))
    (broadcastTo S128x16x128 (shapeCast S128x1x1 (divf (expo x i) (den x)) shapeCasts_S128x1x1_S128x1x1)
      broadcasts_S128x1x1_S128x16x128)
    (broadcast S128x16x128 (Scalar.ofBits .f32 0x00000000#32))

/-- The weights block, in the printed association. -/
def wBlk (x : FVec Ideal S128x16x128 .f32) : FVec Ideal S128x16x128 .f32 :=
  addf (addf (addf (addf (addf (addf (addf (broadcast S128x16x128 (Scalar.ofBits .f32 0x00000000#32))
    (place x 0)) (place x 1)) (place x 2)) (place x 3)) (place x 4)) (place x 5)) (place x 6)

/-! ## Its reading -/

/-- The literal zero. -/
theorem zero_lit : (FloatOps.ofBits .f32 0x00000000#32 : Ideal .f32) = ((0 : ℝ) : EReal) := by
  show Ideal.ofBits .f32 0x00000000#32 = _
  simp [Ideal.ofBits, Ideal.ieee]

/-- An integer comparison at one index. -/
theorem cmpi_at {s : Shape} (p : CmpIPredicate) (u v : IVec s 32) (j : s.Idx) : cmpi p u v j = IntOp.cmpi p (u j) (v j) := rfl

variable {x : FVec Ideal S128x16x128 .f32} {c : Fin 128} {F : Fin 2048 → ℝ}

theorem expo_apply (hx : Row x c (ext F)) (i : Fin 7) : expo x i.val (ix3 c 0 0) = (topE F i : EReal) := by
  have hb : ∀ t, ext F t ≠ ⊥ := fun t => EReal.coe_ne_bot _
  have h := (rounds_spec hx hb i.val (by omega)).2.1
  have h0 := (rounds_spec hx hb 0 (by omega)).2.1
  show FloatOps.exp (mx (rounds x i.val) (ix3 c 0 0) - mx (rounds x 0) (ix3 c 0 0)) = _
  rw [h, h0, ← EReal.coe_sub]
  rfl

theorem den_apply (hx : Row x c (ext F)) : den x (ix3 c 0 0) = ((∑ j, topE F j : ℝ) : EReal) := by
  show expo x (0 : Fin 7).val (ix3 c 0 0) + expo x (1 : Fin 7).val (ix3 c 0 0) + expo x (2 : Fin 7).val (ix3 c 0 0)
    + expo x (3 : Fin 7).val (ix3 c 0 0) + expo x (4 : Fin 7).val (ix3 c 0 0) + expo x (5 : Fin 7).val (ix3 c 0 0)
    + expo x (6 : Fin 7).val (ix3 c 0 0) = _
  simp only [expo_apply hx, ← EReal.coe_add]
  rw [Fin.sum_univ_seven]

theorem place_apply (hx : Row x c (ext F)) (i : Fin 7) (a : Fin 16) (b : Fin 128) :
    place x i.val (ix3 c a b) = ((if at2 a b = pick F i then topW F i else 0 : ℝ) : EReal) := by
  have hb : ∀ t, ext F t ≠ ⊥ := fun t => EReal.coe_ne_bot _
  have h : first (rounds x i.val) (ix3 c 0 0) = BitVec.ofNat 32 (pick F i).val := (rounds_spec hx hb i.val (by omega)).2.2
  unfold place
  rw [select_apply, shapeCast_self, bcastChan_apply _ _ (by decide), divf_apply, cmpi_at,
    bcastChan_apply _ _ (by decide), h, tau_apply, word_eq, expo_apply hx, den_apply hx]
  rw [show broadcast S128x16x128 (Scalar.ofBits (F := Ideal) .f32 0x00000000#32) (ix3 c a b) = ((0 : ℝ) : EReal) from zero_lit]
  rw [Ideal.div_coe (den_pos F).ne', ← EReal.coe_mul]
  by_cases e : at2 a b = pick F i
  · rw [if_pos e, if_pos e, mul_one_div]; rfl
  · rw [if_neg e, if_neg e]; rfl

/-- The weights block of a real block reads as the placed weights of each channel's sequence. -/
theorem wBlk_apply (hx : Row x c (ext F)) (a : Fin 16) (b : Fin 128) : wBlk x (ix3 c a b) = (wts F (at2 a b) : EReal) := by
  show (FloatOps.ofBits .f32 0x00000000#32 : Ideal .f32) + place x (0 : Fin 7).val (ix3 c a b) + place x (1 : Fin 7).val (ix3 c a b)
    + place x (2 : Fin 7).val (ix3 c a b) + place x (3 : Fin 7).val (ix3 c a b) + place x (4 : Fin 7).val (ix3 c a b)
    + place x (5 : Fin 7).val (ix3 c a b) + place x (6 : Fin 7).val (ix3 c a b) = _
  simp only [place_apply hx, zero_lit, ← EReal.coe_add]
  unfold wts
  rw [Fin.sum_univ_seven, zero_add]

/-! ## The body's stages are these operations -/

section Printed

variable (y : FVec Ideal S128x16x128 .f32)

/-- Which entries are the largest of their channel. -/
def isMx : IVec S128x16x128 1 := cmpf .oeq y (broadcastTo S128x16x128 (mx y) broadcasts_S128x1x1_S128x16x128)

/-- The largest entry of each column, kept at rank 3. -/
def mid : FVec Ideal S128x1x128 .f32 :=
  shapeCast S128x1x128 (multiReduction .maximumf [1] S128x128 y 0xFF800000#32 reduces_S128x16x128_S128x128 (.inl rfl) rfl)
      shapeCasts_S128x128_S128x1x128

theorem pay24 : k0_pay24 = tau := rfl
theorem pay25 : k0_pay25 y = mx y := rfl
theorem pay26 : k0_pay26 y = first y := rfl
theorem pay27 : k0_pay27 y = strike y := rfl
theorem pay28 : k0_pay28 y = mx (strike y) := rfl
theorem pay29 : k0_pay29 y = first (strike y) := rfl
theorem pay30 : k0_pay30 y = strike (strike y) := rfl
theorem pay31 : k0_pay31 y = mx (strike (strike y)) := rfl
theorem pay32 : k0_pay32 y = isMx (strike (strike y)) := rfl
theorem pay33 : k0_pay33 = broadcast S128x16x128 2048#32 := rfl
theorem pay34 : k0_pay34 tau (isMx y) (broadcast S128x16x128 2048#32) = first y := rfl
theorem pay35 : k0_pay35 tau y (isMx y) (broadcast S128x16x128 2048#32) = strike y := rfl
theorem pay36 : k0_pay36 tau y (isMx y) (broadcast S128x16x128 2048#32) = mx (strike y) := rfl
theorem pay37 : k0_pay37 tau y (isMx y) (broadcast S128x16x128 2048#32) = first (strike y) := rfl
theorem pay38 : k0_pay38 tau y (isMx y) (broadcast S128x16x128 2048#32) = strike (strike y) := rfl
theorem pay39 : k0_pay39 tau y (isMx y) (broadcast S128x16x128 2048#32) = mx (strike (strike y)) := rfl
theorem pay40 : k0_pay40 tau y (isMx y) (broadcast S128x16x128 2048#32) = first (strike (strike y)) := rfl
theorem pay41 : k0_pay41 tau y (isMx y) (broadcast S128x16x128 2048#32) = strike (strike (strike y)) := rfl
theorem pay42 : k0_pay42 tau y (isMx y) (broadcast S128x16x128 2048#32) = mid (strike (strike (strike y))) := rfl
theorem pay43 : k0_pay43 (mid y) = mx y := rfl
theorem pay44 : k0_pay44 tau y (mid y) = first y := rfl
theorem pay45 : k0_pay45 tau y (mid y) = strike y := rfl
theorem pay46 : k0_pay46 tau y (mid y) = mx (strike y) := rfl
theorem pay47 : k0_pay47 tau y (mid y) = first (strike y) := rfl
theorem pay48 : k0_pay48 (mx y) = expo y 0 := rfl
theorem pay49 : k0_pay49 (mx y) (mx (rounds y 1)) = expo y 1 := rfl
theorem pay50 : k0_pay50 (mx y) (mx (rounds y 2)) = expo y 2 := rfl
theorem pay51 : k0_pay51 (mx y) (mx (rounds y 3)) = expo y 3 := rfl
theorem pay52 : k0_pay52 (mx y) (mx (rounds y 4)) = expo y 4 := rfl
theorem pay53 : k0_pay53 (mx y) (mid (rounds y 5)) = expo y 5 := rfl
theorem pay54 : k0_pay54 tau (mx y) (rounds y 5) (mid (rounds y 5)) = expo y 6 := rfl
theorem pay55 : k0_pay55 tau (mx y) (mx (rounds y 1)) (mx (rounds y 2)) (mx (rounds y 3)) (mx (rounds y 4)) (rounds y 5)
    (mid (rounds y 5)) = den y := rfl
theorem pay58 : k0_pay58 tau (mx y) (mx (rounds y 1)) (mx (rounds y 2)) (mx (rounds y 3)) (mx (rounds y 4)) (rounds y 5)
    (mid (rounds y 5)) = divf (expo y 0) (den y) := rfl
theorem pay59 : k0_pay59 tau (first (rounds y 1)) (first (rounds y 2)) (first (rounds y 3)) (first (rounds y 4)) (first (rounds y 5))
    (first (rounds y 6)) (expo y 1) (expo y 2) (expo y 3) (expo y 4) (expo y 5) (expo y 6) (den y) k0_pay56
    (k0_pay57 tau (first y)) (divf (expo y 0) (den y)) = wBlk y := rfl

end Printed

end Cert.Weights
-- ==== Proof.Body.lean ====
/-
  What the kernel's body leaves in its output block: the cross-correlation of the value block with the weights that it puts at the
  selected lags of the first two blocks' cross-correlation.
-/
module

public import proofs.«01_k».proof.Proof.Gen.KernelIdeal.Frame
public import proofs.«01_k».proof.Proof.Transforms
public import proofs.«01_k».proof.Proof.Weights

@[expose] public section

set_option synthInstance.maxSize 4096

noncomputable section

namespace Cert.Body

open Idealize.ShloMosaic Idealize.ShloMosaic.ValueIdx Cert.KernelIdeal Cert.KernelIdeal.Gen Cert.Stages Cert.Transforms Cert.Rounds
open Cert.Weights

/-! ## The transforms' printed stages -/

section Printed

variable (w1f : FVec Ideal S16x32 .bf16) (w1f3 : FVec Ideal S48x32 .bf16) (w2f : FVec Ideal S256x256 .bf16)
  (w2f3 : FVec Ideal S768x256 .bf16) (w2i : FVec Ideal S256x256 .bf16) (w2i3 : FVec Ideal S768x256 .bf16)
  (w1i : FVec Ideal S32x16 .bf16) (w1i3 : FVec Ideal S96x16 .bf16) (tc ts : FVec Ideal S1x16x128 .f32)
  (x a b re im : FVec Ideal S128x16x128 .f32) (u : FVec Ideal S128x32x128 .f32)

theorem pay12 : k0_pay12 w1f3 x = coarse3 w1f3 x := by
  show coarse3 (shapeCast S48x32 w1f3 _) (shapeCast S128x16x128 x _) = _
  rw [shapeCast_self, shapeCast_self]

theorem pay16 : k0_pay16 w1f3 x = coarse3 w1f3 x := by
  show coarse3 w1f3 (shapeCast S128x16x128 x _) = _
  rw [shapeCast_self]

theorem pay14 : k0_pay14 w2f3 tc ts u = half0 (fine3 w2f3 (twRe tc ts u) (twIm tc ts u)) := rfl
theorem pay15 : k0_pay15 w2f3 tc ts u = half1 (fine3 w2f3 (twRe tc ts u) (twIm tc ts u)) := rfl

theorem pay19 : k0_pay19 w1f3 tc ts x = twRe tc ts (coarse3 w1f3 x) := by
  rw [← pay16]; rfl

theorem pay20 : k0_pay20 w1f3 tc ts x = twIm tc ts (coarse3 w1f3 x) := by
  rw [← pay16]; rfl

theorem pay21 : k0_pay21 w1f3 tc ts x = hi (twRe tc ts (coarse3 w1f3 x)) := by
  rw [← pay19]; rfl

theorem pay22 : k0_pay22 w1f3 tc ts x = lo (twRe tc ts (coarse3 w1f3 x)) := by
  rw [← pay19]; rfl

theorem pay23 : k0_pay23 w2f3 w2i3 w1i3 tc ts a b im (hi re) (lo re)
    = inv3 w2i3 w1i3 tc ts (crossRe a b (half0 (fine3 w2f3 re im)) (half1 (fine3 w2f3 re im)))
      (crossIm a b (half0 (fine3 w2f3 re im)) (half1 (fine3 w2f3 re im))) := rfl

theorem pay60 : k0_pay60 w1f w2f tc ts x = fwd1 w1f w2f tc ts x := rfl

theorem pay61 : k0_pay61 w1f w2f tc ts x = half0 (fwd1 w1f w2f tc ts x) := rfl

theorem pay62 : k0_pay62 w1f w2f tc ts x = half1 (fwd1 w1f w2f tc ts x) := rfl

theorem pay63 : k0_pay63 w1f w2f tc ts x = fwd1 w1f w2f tc ts x := by
  show fwd1 w1f w2f tc ts (shapeCast S128x16x128 x _) = _
  rw [shapeCast_self]

theorem pay64 : k0_pay64 w1f w2f tc ts x = half0 (fwd1 w1f w2f tc ts x) := by
  rw [← pay63]; rfl

theorem pay1 (y : FVec Ideal S128x16x256 .f32) : k0_pay1 w2i w1i tc ts a b y (half0 y)
    = inv1 w2i w1i tc ts (crossRe (half0 y) (half1 y) a b) (crossIm (half0 y) (half1 y) a b) := rfl

end Printed

/-! ## The body -/

section Out

variable (x0 x1 x2 : Vec Ideal S128x16x128 .f32) (x3 : Vec Ideal S16x32 .bf16) (x4 : Vec Ideal S48x32 .bf16)
  (x5 : Vec Ideal S256x256 .bf16) (x6 : Vec Ideal S768x256 .bf16) (x7 : Vec Ideal S256x256 .bf16) (x8 : Vec Ideal S768x256 .bf16)
  (x9 : Vec Ideal S32x16 .bf16) (x10 : Vec Ideal S96x16 .bf16) (x11 x12 : Vec Ideal S1x16x128 .f32)

/-- Two zero offsets. -/
theorem off2 : (![0, 0] : Fin 2 → ℕ) = fun _ => 0 := by decide

/-- Three zero offsets. -/
theorem off3 : (![0, 0, 0] : Fin 3 → ℕ) = fun _ => 0 := by decide

theorem pay65 : k0_pay65 x0 x1 x2 x3 x4 x5 x6 x7 x8 x9 x10 x11 x12 = x3 := by
  unfold k0_pay65
  exact (shapeCast_self _ _).trans (View.ld_unit_zero off2 _ _)

theorem pay66 : k0_pay66 x0 x1 x2 x3 x4 x5 x6 x7 x8 x9 x10 x11 x12 = x4 := by
  unfold k0_pay66
  exact (shapeCast_self _ _).trans (View.ld_unit_zero off2 _ _)

theorem pay67 : k0_pay67 x0 x1 x2 x3 x4 x5 x6 x7 x8 x9 x10 x11 x12 = x5 := by
  unfold k0_pay67
  exact (shapeCast_self _ _).trans (View.ld_unit_zero off2 _ _)

theorem pay68 : k0_pay68 x0 x1 x2 x3 x4 x5 x6 x7 x8 x9 x10 x11 x12 = x6 := by
  unfold k0_pay68
  exact (shapeCast_self _ _).trans (View.ld_unit_zero off2 _ _)

theorem pay69 : k0_pay69 x0 x1 x2 x3 x4 x5 x6 x7 x8 x9 x10 x11 x12 = x11 := by
  unfold k0_pay69
  exact (shapeCast_self _ _).trans (View.ld_unit_zero off3 _ _)

theorem pay70 : k0_pay70 x0 x1 x2 x3 x4 x5 x6 x7 x8 x9 x10 x11 x12 = x12 := by
  unfold k0_pay70
  exact (shapeCast_self _ _).trans (View.ld_unit_zero off3 _ _)

/-- The load of a whole block. -/
theorem ldBlk (x : Vec Ideal S128x16x128 .f32) : View.ld x r0_7 = x := View.ld_unit_zero off3 _ _

theorem pay7 : k0_pay7 (View.ld x8 r0_3) = x8 := by
  exact (shapeCast_self _ _).trans (View.ld_unit_zero off2 _ _)

theorem pay9 : k0_pay9 (View.ld x10 r0_5) = x10 := by
  exact (shapeCast_self _ _).trans (View.ld_unit_zero off2 _ _)

theorem pay6 : k0_pay6 (View.ld x7 r0_2) = x7 := by
  exact (shapeCast_self _ _).trans (View.ld_unit_zero off2 _ _)

theorem pay8 : k0_pay8 (View.ld x9 r0_4) = x9 := by
  exact (shapeCast_self _ _).trans (View.ld_unit_zero off2 _ _)

theorem pay71 : k0_pay71 x0 x1 x2 x3 x4 x5 x6 x7 x8 x9 x10 x11 x12 = coarse3 x4 x0 := by
  unfold k0_pay71
  rw [ldBlk, show View.ld x4 r0_1 = x4 from View.ld_unit_zero off2 _ _, pay12]

/-- The block of correlations. -/
def corrBlk : FVec Ideal S128x16x128 .f32 :=
  back3 x8 x10 x11 x12 (fwd3 x4 x6 x11 x12 x0) (fwd3 x4 x6 x11 x12 x1)

theorem pay72 : k0_pay72 x0 x1 x2 x3 x4 x5 x6 x7 x8 x9 x10 x11 x12 = corrBlk x0 x1 x4 x6 x8 x10 x11 x12 := by
  unfold k0_pay72
  rw [pay66, pay68, pay69, pay70, pay71, pay7, pay9, ldBlk, pay20, pay21, pay22, pay14, pay15, pay23]
  rfl

theorem pay84 : k0_pay84 x0 x1 x2 x3 x4 x5 x6 x7 x8 x9 x10 x11 x12 = wBlk (corrBlk x0 x1 x4 x6 x8 x10 x11 x12) := by
  unfold k0_pay84 k0_pay83 k0_pay82 k0_pay81 k0_pay80 k0_pay79 k0_pay78 k0_pay77 k0_pay76 k0_pay75 k0_pay74 k0_pay73
  rw [pay72]
  generalize corrBlk x0 x1 x4 x6 x8 x10 x11 x12 = y
  rw [pay24, pay33, pay25, pay26, pay28, pay29, pay30, pay31, pay32, pay34, pay36, pay37, pay39, pay40, pay41, pay42, pay44, pay47]
  exact pay59 y

/-- The body's output block. -/
theorem out_eq : out0_13 x0 x1 x2 x3 x4 x5 x6 x7 x8 x9 x10 x11 x12 = back1 x7 x9 x11 x12 (fwd1 x3 x5 x11 x12 x2)
    (fwd1 x3 x5 x11 x12 (wBlk (corrBlk x0 x1 x4 x6 x8 x10 x11 x12))) := by
  unfold out0_13
  rw [View.canon_unit_zero off3, pay65, pay67, pay69, pay70, pay84, pay6, pay8, ldBlk, pay61, pay62, pay63, pay64, pay1]
  rfl

end Out

end Cert.Body
-- ==== Proof.Channel.lean ====
/-
  One channel of the layer over the reals, and the kernel's body read as that channel-wise function.
-/
module

public import proofs.«01_k».proof.Proof.Body

@[expose] public section

noncomputable section

namespace Cert.Channel

open Idealize.ShloMosaic Idealize.ShloMosaic.ValueIdx Cert.KernelIdeal Cert.Dft Cert.Stages Cert.Transforms Cert.Rounds Cert.Weights
open Cert.Body

/-- The sum of two positions, wrapped round the sequence. -/
def wrap (u n : Fin 2048) : Fin 2048 := ⟨(u.val + n.val) % 2048, Nat.mod_lt _ (by omega)⟩

/-- The circular cross-correlation at lag `n`. -/
def corr (q k : Fin 2048 → ℝ) (n : Fin 2048) : ℝ := ∑ u, q (wrap u n) * k u

/-- The layer on one channel: the values at the seven lags of largest correlation, averaged with the softmax of those correlations. -/
def agg (q k v : Fin 2048 → ℝ) (n : Fin 2048) : ℝ := ∑ i : Fin 7, topW (corr q k) i * v (wrap (pick (corr q k) i) n)

/-- A sequence laid out as a block's channel. -/
def lay (q : Fin 2048 → ℝ) (a : Fin 16) (b : Fin 128) : ℝ := q (at2 a b)

theorem at16_lay (q : Fin 2048 → ℝ) (t : Fin 2048) : at16 (lay q) t = q t :=
  congrArg q (Fin.ext (Nat.div_add_mod t.val 128))

theorem at16_at2 (x : Fin 16 → Fin 128 → ℝ) (a : Fin 16) (b : Fin 128) : at16 x (at2 a b) = x a b := by
  have ha : (⟨(at2 a b).val / 128, by have := (at2 a b).isLt; omega⟩ : Fin 16) = a :=
    Fin.ext (by show (128 * a.val + b.val) / 128 = a.val; omega)
  have hb : (⟨(at2 a b).val % 128, by omega⟩ : Fin 128) = b := Fin.ext (by show (128 * a.val + b.val) % 128 = b.val; omega)
  unfold at16
  rw [ha, hb]

/-- The transforms' cross-correlation of laid-out sequences. -/
theorem xcorr_lay (q k : Fin 2048 → ℝ) (a : Fin 16) (b : Fin 128) : xcorr (lay q) (lay k) a b = corr q k (at2 a b) := by
  rw [← at16_at2 (xcorr (lay q) (lay k)) a b]
  refine (inv_corr (lay q) (lay k) (at2 a b)).trans ?_
  refine Finset.sum_congr rfl fun u _ => ?_
  rw [at16_lay, at16_lay]
  rfl

/-- Correlating against the placed weights averages the seven shifted values. -/
theorem corr_wts (F v : Fin 2048 → ℝ) (n : Fin 2048) : corr v (wts F) n = ∑ i : Fin 7, topW F i * v (wrap (pick F i) n) :=
  sum_wts F fun u => v (wrap u n)

variable {w1f : FVec Ideal S16x32 .bf16} {w1f3 : FVec Ideal S48x32 .bf16} {w2f : FVec Ideal S256x256 .bf16}
  {w2f3 : FVec Ideal S768x256 .bf16} {w2i : FVec Ideal S256x256 .bf16} {w2i3 : FVec Ideal S768x256 .bf16}
  {w1i : FVec Ideal S32x16 .bf16} {w1i3 : FVec Ideal S96x16 .bf16} {tc ts : FVec Ideal S1x16x128 .f32}
  {x0 x1 x2 : FVec Ideal S128x16x128 .f32} {q k v : Fin 128 → Fin 2048 → ℝ}

/-- The body's output block holds, channel by channel, the layer of the three input blocks' sequences. -/
theorem out_holds (T : Tables w1f w1f3 w2f w2f3 w2i w2i3 w1i w1i3 tc ts) (h0 : Holds x0 fun c => lay (q c))
    (h1 : Holds x1 fun c => lay (k c)) (h2 : Holds x2 fun c => lay (v c)) :
    Holds (φ := .f32) (Cert.KernelIdeal.Gen.out0_13 (F := Ideal) x0 x1 x2 w1f w1f3 w2f w2f3 w2i w2i3 w1i w1i3 tc ts)
      fun c => lay (agg (q c) (k c) (v c)) := by
  have hc : ∀ c, Row (corrBlk x0 x1 w1f3 w2f3 w2i3 w1i3 tc ts) c (ext (corr (q c) (k c))) := fun c a b =>
    (corr3_holds T h0 h1 c a b).trans (congrArg _ (xcorr_lay (q c) (k c) a b))
  have hw : Holds (wBlk (corrBlk x0 x1 w1f3 w2f3 w2i3 w1i3 tc ts)) fun c => lay (wts (corr (q c) (k c))) := fun c a b =>
    wBlk_apply (hc c) a b
  rw [out_eq]
  intro c a b
  exact (corr1_holds T h2 hw c a b).trans (congrArg _ ((xcorr_lay _ _ a b).trans (corr_wts _ _ _)))

end Cert.Channel
-- ==== Proof.Final.lean ====
/-
  The kernel's output array after the run: row by row, each channel's answer.
-/
module

public import proofs.«01_k».proof.Proof.Entry
public import proofs.«01_k».proof.Proof.Channel
public import Idealize.ShloMosaic.Lib.Pipeline.Value

@[expose] public section

set_option synthInstance.maxSize 4096

noncomputable section

namespace Cert.Final

open Idealize.ShloMosaic Idealize.ShloMosaic.TcCoe Idealize.ShloMosaic.ValueIdx Cert.KernelIdeal Cert.KernelIdeal.Gen
open Cert.Stages Cert.Transforms Cert.Rounds Cert.Channel Cert.Entry

variable (m : (ℓ : Loc nD τ sig) → Buf (Elt Ideal) ℓ) (c : Dev nD)

/-! ## The windows' blocks -/

theorem index0 : ∀ t : Fin grid0.N, win0_0.index t = ![t.val, 0, 0] := by decide +kernel
theorem index1 : ∀ t : Fin grid0.N, win0_1.index t = ![t.val, 0, 0] := by decide +kernel
theorem index2 : ∀ t : Fin grid0.N, win0_2.index t = ![t.val, 0, 0] := by decide +kernel
theorem index13 : ∀ t : Fin grid0.N, win0_13.index t = ![t.val, 0, 0] := by decide +kernel

/-- Row `r` of the block at point `t`, as a row of the array. -/
def row (t : Fin cfg0.N) (r : Fin 128) : Fin 4096 :=
  ⟨t.val * 128 + r.val, by have := lt_of_lt_of_eq t.isLt (show cfg0.N = 32 by decide); omega⟩

/-- A block's entry, offset by its block's place, is the array's entry at its row. -/
theorem place_eq (t : Fin cfg0.N) (r : Fin 128) (a : Fin 16) (b : Fin 128) (e : Fin 3) :
    (![t.val, 0, 0] : Fin 3 → ℕ) e * S128x16x128.size e + ((ix3 r a b : S128x16x128.Idx) e).val
      = ((ix3 (row t r) a b : S4096x16x128.Idx) e).val := by
  match e with
  | ⟨0, _⟩ => rfl
  | ⟨1, _⟩ => show 0 * 16 + a.val = a.val; omega
  | ⟨2, _⟩ => show 0 * 128 + b.val = b.val; omega

theorem blk0_apply (t : Fin cfg0.N) (r : Fin 128) (a : Fin 16) (b : Fin 128) :
    iblk m c 0 t (ix3 r a b) = (V m c main_v80 : S4096x16x128.Idx → EReal) (ix3 (row t r) a b) :=
  congrArg (V m c main_v80 : S4096x16x128.Idx → EReal) (funext fun e => Fin.ext ((win0_0.rect_emb_val t (ix3 r a b) e).trans
    ((congrArg (fun k : Fin 3 → ℕ => k e * S128x16x128.size e + ((ix3 r a b : S128x16x128.Idx) e).val) (index0 t)).trans
      (place_eq t r a b e))))

theorem blk1_apply (t : Fin cfg0.N) (r : Fin 128) (a : Fin 16) (b : Fin 128) :
    iblk m c 1 t (ix3 r a b) = (V m c main_v82 : S4096x16x128.Idx → EReal) (ix3 (row t r) a b) :=
  congrArg (V m c main_v82 : S4096x16x128.Idx → EReal) (funext fun e => Fin.ext ((win0_1.rect_emb_val t (ix3 r a b) e).trans
    ((congrArg (fun k : Fin 3 → ℕ => k e * S128x16x128.size e + ((ix3 r a b : S128x16x128.Idx) e).val) (index1 t)).trans
      (place_eq t r a b e))))

theorem blk2_apply (t : Fin cfg0.N) (r : Fin 128) (a : Fin 16) (b : Fin 128) :
    iblk m c 2 t (ix3 r a b) = (V m c main_v84 : S4096x16x128.Idx → EReal) (ix3 (row t r) a b) :=
  congrArg (V m c main_v84 : S4096x16x128.Idx → EReal) (funext fun e => Fin.ext ((win0_2.rect_emb_val t (ix3 r a b) e).trans
    ((congrArg (fun k : Fin 3 → ℕ => k e * S128x16x128.size e + ((ix3 r a b : S128x16x128.Idx) e).val) (index2 t)).trans
      (place_eq t r a b e))))

/-- An array read at the block of its own size whose place is zero is the array. -/
theorem read_zero (x : Ref sig .tc) (k : Fin x.ty.shape.rank → ℕ) (hk : ∀ a, k a = 0)
    (inb : ∀ a, k a * x.ty.shape.size a + x.ty.shape.size a ≤ x.ty.shape.size a) (f : x.ty.Contents (Elt Ideal)) :
    ((Memref.whole x).access (Rect.unit (fun a => k a * x.ty.shape.size a) x.ty.shape.size inb) : View sig .tc _ _ _).read (Elt Ideal) f
      = f :=
  Memref.read_access_unit_zero (Elt Ideal) x (funext fun a => by rw [hk a, Nat.zero_mul]) inb f

theorem blk3_eq (t : Fin cfg0.N) : iblk m c 3 t = V m c main_v55 :=
  read_zero main_v55 (win0_3.index t) (fun a => by fin_cases a <;> rfl) _ _

theorem blk4_eq (t : Fin cfg0.N) : iblk m c 4 t = V m c main_v59 :=
  read_zero main_v59 (win0_4.index t) (fun a => by fin_cases a <;> rfl) _ _

theorem blk5_eq (t : Fin cfg0.N) : iblk m c 5 t = V m c main_v60 :=
  read_zero main_v60 (win0_5.index t) (fun a => by fin_cases a <;> rfl) _ _

theorem blk6_eq (t : Fin cfg0.N) : iblk m c 6 t = V m c main_v64 :=
  read_zero main_v64 (win0_6.index t) (fun a => by fin_cases a <;> rfl) _ _

theorem blk7_eq (t : Fin cfg0.N) : iblk m c 7 t = V m c main_v65 :=
  read_zero main_v65 (win0_7.index t) (fun a => by fin_cases a <;> rfl) _ _

theorem blk8_eq (t : Fin cfg0.N) : iblk m c 8 t = V m c main_v69 :=
  read_zero main_v69 (win0_8.index t) (fun a => by fin_cases a <;> rfl) _ _

theorem blk9_eq (t : Fin cfg0.N) : iblk m c 9 t = V m c main_v70 :=
  read_zero main_v70 (win0_9.index t) (fun a => by fin_cases a <;> rfl) _ _

theorem blk10_eq (t : Fin cfg0.N) : iblk m c 10 t = V m c main_v74 :=
  read_zero main_v74 (win0_10.index t) (fun a => by fin_cases a <;> rfl) _ _

theorem blk11_eq (t : Fin cfg0.N) : iblk m c 11 t = V m c main_v76 :=
  read_zero main_v76 (win0_11.index t) (fun a => by fin_cases a <;> rfl) _ _

theorem blk12_eq (t : Fin cfg0.N) : iblk m c 12 t = V m c main_v78 :=
  read_zero main_v78 (win0_12.index t) (fun a => by fin_cases a <;> rfl) _ _

/-! ## The array after the run -/

/-- What point `t` writes back. -/
theorem flushed13 (t : Fin cfg0.N) (y : S128x16x128.Idx) :
    (dats m 0 c).flushed 13 t y = out0_13 (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) y := by
  show (cfg0.win 13).cut (grid0.coords t) ((dats m 0 c).after 13 t) y = _
  rw [after0_13]
  rfl

variable (Q K W : Fin 4096 → Fin 2048 → ℝ)

/-- Each channel's answer, laid out as the output array. -/
def answer : S4096x16x128.Idx → EReal := fun j => ((lay (agg (Q (j 0)) (K (j 0)) (W (j 0))) (j 1) (j 2) : ℝ) : EReal)

theorem flushed_eq (hq : ∀ r a b, (V m c main_v80 : S4096x16x128.Idx → EReal) (ix3 r a b) = ((lay (Q r) a b : ℝ) : EReal))
    (hk : ∀ r a b, (V m c main_v82 : S4096x16x128.Idx → EReal) (ix3 r a b) = ((lay (K r) a b : ℝ) : EReal))
    (hv : ∀ r a b, (V m c main_v84 : S4096x16x128.Idx → EReal) (ix3 r a b) = ((lay (W r) a b : ℝ) : EReal))
    (t : Fin cfg0.N) (r : Fin 128) (a : Fin 16) (b : Fin 128) :
    (dats m 0 c).flushed 13 t (ix3 r a b) = answer Q K W (ix3 (row t r) a b) := by
  refine (flushed13 m c t (ix3 r a b)).trans ?_
  rw [blk3_eq, blk4_eq, blk5_eq, blk6_eq, blk7_eq, blk8_eq, blk9_eq, blk10_eq, blk11_eq, blk12_eq]
  exact out_holds (q := fun r => Q (row t r)) (k := fun r => K (row t r)) (v := fun r => W (row t r)) (tables m c)
    (fun r a b => (blk0_apply m c t r a b).trans (hq _ a b)) (fun r a b => (blk1_apply m c t r a b).trans (hk _ a b))
    (fun r a b => (blk2_apply m c t r a b).trans (hv _ a b)) r a b

theorem emb13 (t : Fin cfg0.N) (r : Fin 128) (a : Fin 16) (b : Fin 128) :
    ((cfg0.win 13).blk t).view.emb (ix3 r a b) = (ix3 (row t r) a b : S4096x16x128.Idx) := by
  show (win0_13.rect t).emb (ix3 r a b) = (ix3 (row t r) a b : S4096x16x128.Idx)
  exact funext fun e => Fin.ext ((win0_13.rect_emb_val t (ix3 r a b) e).trans
    ((congrArg (fun k : Fin 3 → ℕ => k e * S128x16x128.size e + ((ix3 r a b : S128x16x128.Idx) e).val) (index13 t)).trans
      (place_eq t r a b e)))

theorem flush13 (t : Fin cfg0.N) : (cfg0.win 13).flush t = true :=
  (by decide +kernel : ∀ t : Fin grid0.N, win0_13.flush t = true) t

theorem row_surj (R : Fin 4096) : ∃ (t : Fin cfg0.N) (r : Fin 128), row t r = R :=
  ⟨⟨R.val / 128, lt_of_lt_of_eq (by omega : R.val / 128 < 32) (show 32 = cfg0.N by decide)⟩, ⟨R.val % 128, by omega⟩,
    Fin.ext (Nat.div_add_mod' R.val 128)⟩

theorem covered (t : Fin cfg0.N) (r : Fin 128) (a : Fin 16) (b : Fin 128) :
    (ix3 (row t r) a b : S4096x16x128.Idx) ∈ ((cfg0.win 13).blk t).view.set := by
  rw [← emb13 t r a b]
  exact View.emb_mem_set _ _

/-- The output array holds every channel's answer. -/
theorem array_eq (hq : ∀ r a b, (V m c main_v80 : S4096x16x128.Idx → EReal) (ix3 r a b) = ((lay (Q r) a b : ℝ) : EReal))
    (hk : ∀ r a b, (V m c main_v82 : S4096x16x128.Idx → EReal) (ix3 r a b) = ((lay (K r) a b : ℝ) : EReal))
    (hv : ∀ r a b, (V m c main_v84 : S4096x16x128.Idx → EReal) (ix3 r a b) = ((lay (W r) a b : ℝ) : EReal)) :
    (dats m 0 c).arrAt 13 cfg0.N = answer Q K W := by
  refine (dats m 0 c).arrAt_eq_of_cover 13 (answer Q K W) (fun t _ => ?_) fun i => ?_
  · refine funext fun y => ?_
    obtain ⟨r, a, b, rfl⟩ : ∃ (r : Fin 128) (a : Fin 16) (b : Fin 128), y = ix3 r a b := ⟨_, _, _, eq_ix3 y⟩
    refine (flushed_eq m c Q K W hq hk hv t r a b).trans ?_
    exact (congrArg (answer Q K W) (emb13 t r a b)).symm
  · obtain ⟨R, a, b, rfl⟩ : ∃ (R : Fin 4096) (a : Fin 16) (b : Fin 128), i = ix3 R a b := ⟨_, _, _, eq_ix3 i⟩
    obtain ⟨t, r, rfl⟩ := row_surj R
    exact ⟨t, flush13 t, covered t r a b⟩

end Cert.Final
-- ==== Proof.KernelRun.lean ====
/-
  The kernel program's result after its run: the output array regrouped into channels and transposed back, at real arguments the
  aggregation of every channel.
-/
module

public import proofs.«01_k».proof.Proof.Final

@[expose] public section

set_option synthInstance.maxSize 4096

noncomputable section

namespace Cert.KernelRun

open Idealize.ShloMosaic Idealize.ShloMosaic.TcCoe Idealize.ShloMosaic.ValueIdx Cert.KernelIdeal Cert.KernelIdeal.Gen
open Idealize.SL.Sem Idealize.ShloMosaic.StableHlo Cert.Rounds Cert.Channel Cert.Entry Cert.Final

/-- One channel of an argument, along its time axis. -/
def seq (x : S4x2048x16x64.Idx → EReal) (b : Fin 4) (h : Fin 16) (e : Fin 64) (n : Fin 2048) : ℝ := (x (ix4 b n h e)).toReal

/-- The result at real arguments: every channel's aggregation. -/
def value (x0 x1 x2 : S4x2048x16x64.Idx → EReal) : S4x2048x16x64.Idx → EReal := fun j =>
  ((agg (seq x0 (j 0) (j 2) (j 3)) (seq x1 (j 0) (j 2) (j 3)) (seq x2 (j 0) (j 2) (j 3)) (j 1) : ℝ) : EReal)

/-- Every entry of an argument is a real number. -/
def Real4 (x : S4x2048x16x64.Idx → EReal) : Prop := ∀ j, x j = ((x j).toReal : EReal)

/-- Row `r` of the kernel's arrays as a channel. -/
def chans (x : S4x2048x16x64.Idx → EReal) (r : Fin 4096) : Fin 2048 → ℝ :=
  seq x ⟨r.val / 1024, by omega⟩ ⟨r.val / 64 % 16, by omega⟩ ⟨r.val % 64, by omega⟩

theorem chan_real (x : S4x2048x16x64.Idx → EReal) (hx : Real4 x) (r : Fin 4096) (i : Fin 16) (j : Fin 128) :
    chan x (ix3 r i j) = (lay (chans x r) i j : EReal) := by
  have hr : r = ⟨((⟨r.val / 1024, by omega⟩ : Fin 4).val * 16 + (⟨r.val / 64 % 16, by omega⟩ : Fin 16).val) * 64
      + (⟨r.val % 64, by omega⟩ : Fin 64).val, by dsimp only; omega⟩ := Fin.ext (by dsimp only; omega)
  refine (congrArg (fun R => chan x (ix3 R i j)) hr).trans ((chan_apply x _ _ _ i j).trans ?_)
  exact hx _

theorem chans_at (x : S4x2048x16x64.Idx → EReal) (b : Fin 4) (h : Fin 16) (e : Fin 64) :
    chans x ⟨(b.val * 16 + h.val) * 64 + e.val, by omega⟩ = seq x b h e := by
  have hb : ((b.val * 16 + h.val) * 64 + e.val) / 1024 = b.val := by omega
  have hh : ((b.val * 16 + h.val) * 64 + e.val) / 64 % 16 = h.val := by omega
  have he : ((b.val * 16 + h.val) * 64 + e.val) % 64 = e.val := by omega
  unfold chans
  congr 1
  · exact Fin.ext hb
  · exact Fin.ext hh
  · exact Fin.ext he

/-- The host operations after the kernel, applied to its output array. -/
def back (A : S4096x16x128.Idx → EReal) : S4x2048x16x64.Idx → EReal :=
  transpose S4x2048x16x64 [0, 3, 1, 2] (shapeCast S4x16x64x2048 A shapeCasts_S4096x16x128_S4x16x64x2048)
    transposes_S4x16x64x2048_S4x2048x16x64_0_3_1_2

theorem back_apply (A : S4096x16x128.Idx → EReal) (b : Fin 4) (l : Fin 2048) (h : Fin 16) (e : Fin 64) :
    back A (ix4 b l h e) = A (ix3 (⟨(b.val * 16 + h.val) * 64 + e.val, by omega⟩ : Fin 4096) (⟨l.val / 128, by omega⟩ : Fin 16)
      (⟨l.val % 128, by omega⟩ : Fin 128)) := by
  refine (transpose_apply [0, 3, 1, 2] _ _ (ix4 b l h e) (ix4 b h e l) fun a => ?_).trans (shapeCast_apply _ _ _ _ ?_)
  · match a with
    | ⟨0, _⟩ => rfl
    | ⟨1, _⟩ => rfl
    | ⟨2, _⟩ => rfl
    | ⟨3, _⟩ => rfl
  · rw [Shape.rowMajor_val_three, Shape.rowMajor_val_four]
    show (((b.val * 16 + h.val) * 64 + e.val) * 16 + l.val / 128) * 128 + l.val % 128
      = ((b.val * 16 + h.val) * 64 + e.val) * 2048 + l.val
    omega

variable (m : (ℓ : Loc nD τ sig) → Buf (Elt Ideal) ℓ) (c : Dev nD)

/-- The result buffer after the host operations that follow the kernel. -/
theorem tail_eq : (Pipeline.afterTail₀ cfgs (dats m) 0 (V0 m) [hostOps1] c main_v87 : S4x2048x16x64.Idx → EReal)
    = back ((dats m 0 c).arrAt 13 cfg0.N) := by
  have hA := Pipeline.withArrays_arr (cfgs 0).spec winFacts0.arr_inj c (V0 m c) (fun w => (dats m 0 c).arrAt w (cfgs 0).N) 13
  unfold Pipeline.afterTail₀
  simp only [List.flatten_cons, List.flatten_nil, List.append_nil]
  after_results_simp
  exact congrArg back hA

/-- The result at real arguments. -/
theorem result_eq (h0 : Real4 (m ⟨c, Proc.devRef .tc main_arg0⟩)) (h1 : Real4 (m ⟨c, Proc.devRef .tc main_arg1⟩))
    (h2 : Real4 (m ⟨c, Proc.devRef .tc main_arg2⟩)) :
    (Pipeline.afterTail₀ cfgs (dats m) 0 (V0 m) [hostOps1] c main_v87 : S4x2048x16x64.Idx → EReal)
      = value (m ⟨c, Proc.devRef .tc main_arg0⟩) (m ⟨c, Proc.devRef .tc main_arg1⟩) (m ⟨c, Proc.devRef .tc main_arg2⟩) := by
  refine (tail_eq m c).trans ((congrArg back (array_eq m c (chans (m ⟨c, Proc.devRef .tc main_arg0⟩))
    (chans (m ⟨c, Proc.devRef .tc main_arg1⟩)) (chans (m ⟨c, Proc.devRef .tc main_arg2⟩))
    (fun r i j => (congrFun (args_eq m c).1 (ix3 r i j)).trans (chan_real _ h0 r i j))
    (fun r i j => (congrFun (args_eq m c).2.1 (ix3 r i j)).trans (chan_real _ h1 r i j))
    (fun r i j => (congrFun (args_eq m c).2.2 (ix3 r i j)).trans (chan_real _ h2 r i j)))).trans (funext fun J => ?_))
  obtain ⟨b, l, h, e, rfl⟩ : ∃ (b : Fin 4) (l : Fin 2048) (h : Fin 16) (e : Fin 64), J = ix4 b l h e :=
    ⟨J 0, J 1, J 2, J 3, eq_ix4 J⟩
  rw [back_apply]
  have hl : at2 (⟨l.val / 128, by omega⟩ : Fin 16) (⟨l.val % 128, by omega⟩ : Fin 128) = l :=
    Fin.ext (by show 128 * (l.val / 128) + l.val % 128 = l.val; omega)
  show ((agg (chans _ _) (chans _ _) (chans _ _) (at2 (⟨l.val / 128, by omega⟩ : Fin 16) (⟨l.val % 128, by omega⟩ : Fin 128)) : ℝ) : EReal)
    = ((agg (seq _ b h e) (seq _ b h e) (seq _ b h e) l : ℝ) : EReal)
  rw [hl]
  refine congrArg (fun r : ℝ => (r : EReal)) ?_
  exact congr (congr (congr (congrArg agg (chans_at _ b h e)) (chans_at _ b h e)) (chans_at _ b h e)) rfl

/-- The program's run at real arguments: its result, and its arguments unchanged. -/
theorem run (ρ : Dev nD → PrngReg) (h0 : ∀ c : Dev nD, Real4 (m ⟨c, Proc.devRef .tc main_arg0⟩))
    (h1 : ∀ c : Dev nD, Real4 (m ⟨c, Proc.devRef .tc main_arg1⟩)) (h2 : ∀ c : Dev nD, Real4 (m ⟨c, Proc.devRef .tc main_arg2⟩)) :
    θ_run defs (onTc (τ := τ) (main (F := Ideal))) ⟨m, fun _ => 0, ρ⟩ (fun r => ∀ c : Dev nD,
      r.2.mem ((c.tc : Thread nD τ).loc main_v87) = value (m ⟨c, Proc.devRef .tc main_arg0⟩) (m ⟨c, Proc.devRef .tc main_arg1⟩)
        (m ⟨c, Proc.devRef .tc main_arg2⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v87 (Pipeline.mem_restRefs_of main_v87 (by decide) (by decide))).trans (result_eq m c (h0 c) (h1 c) (h2 c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelRun
-- ==== Proof.RefOps.lean ====
/-
  The reference's indexed operations read at an index: its two gathers at an index word in range, its choice of the seven
  largest values and their positions, and the arithmetic of its index words.
-/
module

public import proofs.«01_k».proof.Proof.Weights
public import proofs.«01_k».proof.Proof.Gen.ReferenceIdeal
public import Idealize.ShloMosaic.Lib.Affine

@[expose] public section

set_option synthInstance.maxSize 4096

noncomputable section

namespace Cert.RefOps

open Idealize.ShloMosaic Idealize.ShloMosaic.ValueIdx Cert.ReferenceIdeal Cert.ReferenceIdeal.Gen Cert.Order Cert.Weights

/-! ## Index words -/

theorem toInt_word {n : ℕ} (hn : n < 2 ^ 31) : (BitVec.ofNat 32 n).toInt = (n : ℤ) := by
  have h : (BitVec.ofNat 32 n).toNat = n := by rw [BitVec.toNat_ofNat]; omega
  rw [BitVec.toInt_eq_toNat_of_lt (by rw [h]; omega), h]

/-- The sum of two counters reduced modulo 2048, as the host computes it in 32-bit words. -/
theorem wrap_word (a b : ℕ) (ha : a < 2048) (hb : b < 2048) :
    IntOp.remsi .host (IntOp.addi (BitVec.ofNat 32 a) (BitVec.ofNat 32 b)) 2048#32 = BitVec.ofNat 32 ((a + b) % 2048) := by
  have hv : (IntOp.addi (BitVec.ofNat 32 a) (BitVec.ofNat 32 b)).toNat = a + b := by
    show (BitVec.ofNat 32 a + BitVec.ofNat 32 b).toNat = a + b
    rw [← BitVec.ofNat_add, BitVec.toNat_ofNat]; omega
  have h := IntOp.toNat_remsi .host (x := IntOp.addi (BitVec.ofNat 32 a) (BitVec.ofNat 32 b)) (by rw [hv]; omega) 2048 (by omega)
    (by omega)
  refine BitVec.eq_of_toNat_eq ?_
  rw [show (2048#32 : BitVec 32) = BitVec.ofNat 32 2048 from rfl, h, hv, BitVec.toNat_ofNat]
  omega

/-- An index word that is not negative is used as it is. -/
theorem keep_word {n : ℕ} (hn : n < 2 ^ 31) (w : BitVec 32) :
    Scalar.select (IntOp.cmpi .slt (BitVec.ofNat 32 n) 0#32) w (BitVec.ofNat 32 n) = BitVec.ofNat 32 n := by
  have h : IntOp.cmpi .slt (BitVec.ofNat 32 n) 0#32 = 0#1 := by
    show BitVec.ofBool (BitVec.slt (BitVec.ofNat 32 n) 0#32) = 0#1
    have hs : BitVec.slt (BitVec.ofNat 32 n) 0#32 = false := by
      rw [BitVec.slt, toInt_word hn]
      simp
    rw [hs]; rfl
  rw [h]
  rfl

/-! ## The gathers -/

section Gathers
variable {α : Type}

/-- The gather of shifted copies, at an index word in range. -/
theorem shifted_apply (x : S4x16x64x2048.Idx → α) (idx : IVec S2048x2048x1 32) (b : Fin 4) (h : Fin 16) (e : Fin 64)
    (t u n : Fin 2048) (hn : idx (ix3 t u 0) = BitVec.ofNat 32 n.val) :
    Host.gather gather_S4x16x64x2048_S2048x2048x1_S4x16x64x2048x2048_012_3_n_n_3_2_416641 x idx (ix5 b h e t u) = x (ix4 b h e n) := by
  unfold Host.gather
  refine congrArg x (funext fun a => Fin.ext ?_)
  show GatherDims.start _ (ix5 b h e t u) idx a + GatherDims.batchCoord _ (ix5 b h e t u) a
    + GatherDims.offCoord _ (ix5 b h e t u) a = _
  rw [GatherDims.batchCoord_eq_zero _ _ _ List.not_mem_nil]
  match a with
  | ⟨0, _⟩ =>
    unfold GatherDims.start GatherDims.offCoord
    rw [dif_neg (by decide +revert), dif_pos (by decide +revert)]
    show 0 + 0 + b.val = b.val; omega
  | ⟨1, _⟩ =>
    unfold GatherDims.start GatherDims.offCoord
    rw [dif_neg (by decide +revert), dif_pos (by decide +revert)]
    show 0 + 0 + h.val = h.val; omega
  | ⟨2, _⟩ =>
    unfold GatherDims.start GatherDims.offCoord
    rw [dif_neg (by decide +revert), dif_pos (by decide +revert)]
    show 0 + 0 + e.val = e.val; omega
  | ⟨3, _⟩ =>
    rw [GatherDims.offCoord_eq_zero _ _ _ (by decide +revert)]
    unfold GatherDims.start
    rw [dif_pos (by decide +revert)]
    have hsi : GatherDims.siIdx gather_S4x16x64x2048_S2048x2048x1_S4x16x64x2048x2048_012_3_n_n_3_2_416641 (ix5 b h e t u)
        ⟨List.idxOf (3 : Fin 4) [3], by decide⟩ = ix3 t u 0 := by
      funext a; refine Fin.ext ?_
      match a with
      | ⟨0, _⟩ => rfl
      | ⟨1, _⟩ => rfl
      | ⟨2, _⟩ => rfl
    refine Eq.trans (b := min (idx (ix3 t u 0)).toInt.toNat 2047 + 0 + 0) ?_ ?_
    · exact congrArg (fun j => min (idx j).toInt.toNat 2047 + 0 + 0) hsi
    · rw [hn, toInt_word (by omega)]
      show min n.val 2047 + 0 + 0 = n.val
      omega

/-- The gather along the doubled sequence, at an index word in range. -/
theorem along_apply (x : S4x16x64x4096.Idx → α) (idx : IVec S4x16x64x2048x1 32) (b : Fin 4) (h : Fin 16) (e : Fin 64)
    (t : Fin 2048) (n : Fin 4096) (hn : idx (ix5 b h e t 0) = BitVec.ofNat 32 n.val) :
    Host.gather gather_S4x16x64x4096_S4x16x64x2048x1_S4x16x64x2048_n_3_012_012_3_4_1111 x idx (ix4 b h e t) = x (ix4 b h e n) := by
  unfold Host.gather
  refine congrArg x (funext fun a => Fin.ext ?_)
  show GatherDims.start _ (ix4 b h e t) idx a + GatherDims.batchCoord _ (ix4 b h e t) a
    + GatherDims.offCoord _ (ix4 b h e t) a = _
  match a with
  | ⟨0, _⟩ =>
    rw [GatherDims.offCoord_eq_zero _ _ _ (by decide +revert), GatherDims.start_batching _ _ _ _ (by decide +revert)]
    unfold GatherDims.batchCoord
    rw [dif_pos (by decide +revert)]
    show 0 + b.val + 0 = b.val; omega
  | ⟨1, _⟩ =>
    rw [GatherDims.offCoord_eq_zero _ _ _ (by decide +revert), GatherDims.start_batching _ _ _ _ (by decide +revert)]
    unfold GatherDims.batchCoord
    rw [dif_pos (by decide +revert)]
    show 0 + h.val + 0 = h.val; omega
  | ⟨2, _⟩ =>
    rw [GatherDims.offCoord_eq_zero _ _ _ (by decide +revert), GatherDims.start_batching _ _ _ _ (by decide +revert)]
    unfold GatherDims.batchCoord
    rw [dif_pos (by decide +revert)]
    show 0 + e.val + 0 = e.val; omega
  | ⟨3, _⟩ =>
    rw [GatherDims.offCoord_eq_zero _ _ _ (by decide +revert), GatherDims.batchCoord_eq_zero _ _ _ (by decide +revert)]
    unfold GatherDims.start
    rw [dif_pos (by decide +revert)]
    have hsi : GatherDims.siIdx gather_S4x16x64x4096_S4x16x64x2048x1_S4x16x64x2048_n_3_012_012_3_4_1111 (ix4 b h e t)
        ⟨List.idxOf (3 : Fin 4) [3], by decide⟩ = ix5 b h e t 0 := by
      funext a; refine Fin.ext ?_
      match a with
      | ⟨0, _⟩ => rfl
      | ⟨1, _⟩ => rfl
      | ⟨2, _⟩ => rfl
      | ⟨3, _⟩ => rfl
      | ⟨4, _⟩ => rfl
    refine Eq.trans (b := min (idx (ix5 b h e t 0)).toInt.toNat 4095 + 0 + 0) ?_ ?_
    · exact congrArg (fun j => min (idx j).toInt.toNat 4095 + 0 + 0) hsi
    · rw [hn, toInt_word (by omega)]
      show min n.val 4095 + 0 + 0 = n.val
      omega

end Gathers

/-! ## The seven largest -/

theorem along3 (b : Fin 4) (h : Fin 16) (e : Fin 64) (i k : Fin 2048) :
    (ix4 b h e i : S4x16x64x2048.Idx).along 3 k = ix4 b h e k := by
  funext a
  match a with
  | ⟨0, _⟩ => rfl
  | ⟨1, _⟩ => rfl
  | ⟨2, _⟩ => rfl
  | ⟨3, _⟩ => rfl

/-- The row's stable descending order, as the comparison of its entries gives it. -/
theorem sorted_row (x : S4x16x64x2048.Idx → EReal) (F : Fin 2048 → ℝ) (b : Fin 4) (h : Fin 16) (e : Fin 64)
    (hx : ∀ n, x (ix4 b h e n) = (F n : EReal)) (i k : Fin 2048) :
    sortedFrom (fun n n' : Fin 2048 => FloatOps.cmpfTotal (F := Ideal) (φ := .f32) .gt (x ((ix4 b h e i : S4x16x64x2048.Idx).along 3 n))
      (x ((ix4 b h e i : S4x16x64x2048.Idx).along 3 n')) == 1#1) k = order (ext F) k := by
  unfold order
  refine congrArg (fun B => sortedFrom B k) (funext fun n => funext fun n' => ?_)
  rw [along3, along3, hx, hx]
  show (BitVec.ofBool (decide ((F n' : EReal) < (F n : EReal))) == 1#1) = decide (ext F n' < ext F n)
  show (BitVec.ofBool (decide ((F n' : EReal) < (F n : EReal))) == 1#1) = decide ((F n' : EReal) < (F n : EReal))
  cases decide ((F n' : EReal) < (F n : EReal)) <;> rfl

/-- What is carried along with the row is taken in the same order. -/
theorem sorted_second (x : S4x16x64x2048.Idx → EReal) (F : Fin 2048 → ℝ) (b : Fin 4) (h : Fin 16) (e : Fin 64)
    (hx : ∀ n, x (ix4 b h e n) = (F n : EReal)) (y : S4x16x64x2048.Idx → BitVec 32) (i : Fin 2048) :
    (Host.sort2 S4x16x64x2048 3 (fun l r => FloatOps.cmpfTotal (F := Ideal) (φ := .f32) .gt l.1 r.1) x y).2 (ix4 b h e i)
      = y (ix4 b h e (order (ext F) i)) := by
  unfold Host.sort2
  rw [dif_pos (by decide)]
  exact (congrArg (fun k => y ((ix4 b h e i : S4x16x64x2048.Idx).along 3 k)) (sorted_row x F b h e hx i i)).trans
    (congrArg y (along3 b h e i _))

theorem top_value (x : S4x16x64x2048.Idx → EReal) (F : Fin 2048 → ℝ) (b : Fin 4) (h : Fin 16) (e : Fin 64)
    (hx : ∀ n, x (ix4 b h e n) = (F n : EReal)) (i : Fin 7) (hs : S4x16x64x2048.Slices (fun _ => 0) S4x16x64x7) :
    (Host.topK S4x16x64x7 3 (FloatOps.cmpfTotal (F := Ideal) (φ := .f32) .gt) x hs).1 (ix4 b h e i) = (F (pick F i) : EReal) := by
  unfold Host.topK
  dsimp only
  refine (extractStridedSlice_apply (fun _ => 0) _ hs (ix4 b h e i) (ix4 b h e (⟨i.val, by omega⟩ : Fin 2048)) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · unfold Host.sort2
    rw [dif_pos (by decide)]
    refine Eq.trans (b := x ((ix4 b h e (⟨i.val, by omega⟩ : Fin 2048) : S4x16x64x2048.Idx).along 3 (pick F i))) ?_ ?_
    · exact congrArg (fun k => x ((ix4 b h e (⟨i.val, by omega⟩ : Fin 2048) : S4x16x64x2048.Idx).along 3 k))
        (sorted_row x F b h e hx ⟨i.val, by omega⟩ ⟨i.val, by omega⟩)
    · rw [along3, hx]

theorem top_position (x : S4x16x64x2048.Idx → EReal) (F : Fin 2048 → ℝ) (b : Fin 4) (h : Fin 16) (e : Fin 64)
    (hx : ∀ n, x (ix4 b h e n) = (F n : EReal)) (i : Fin 7) (hs : S4x16x64x2048.Slices (fun _ => 0) S4x16x64x7) :
    (Host.topK S4x16x64x7 3 (FloatOps.cmpfTotal (F := Ideal) (φ := .f32) .gt) x hs).2 (ix4 b h e i)
      = BitVec.ofNat 32 (pick F i).val := by
  unfold Host.topK
  dsimp only
  refine (extractStridedSlice_apply (fun _ => 0) _ hs (ix4 b h e i) (ix4 b h e (⟨i.val, by omega⟩ : Fin 2048)) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · refine (sorted_second x F b h e hx _ _).trans ?_
    rw [dif_pos (by decide)]
    rfl

/-- No value is larger than the first pick. -/
theorem le_pick (F : Fin 2048 → ℝ) (i : Fin 7) : F (pick F i) ≤ F (pick F 0) := by
  by_cases h : i = 0
  · rw [h]
  · exact EReal.coe_le_coe_iff.mp (order_sorted (ext F) ⟨0, by omega⟩ ⟨i.val, by omega⟩
      (Nat.pos_of_ne_zero fun h' => h (Fin.ext h'))).1

end Cert.RefOps
-- ==== Proof.RefRead.lean ====
/-
  The reference's result read at an entry: its shifted products summed to the correlation, the seven largest lags of each
  channel, their softmax weights, and the weighted sum of the shifted values.
-/
module

public import proofs.«01_k».proof.Proof.RefOps
public import proofs.«01_k».proof.Proof.Channel
public import proofs.«01_k».proof.Proof.Gen.ReferenceIdeal.Read

@[expose] public section

set_option synthInstance.maxSize 4096

noncomputable section

namespace Cert.RefRead

open Idealize.ShloMosaic Idealize.ShloMosaic.ValueIdx Cert.ReferenceIdeal Cert.ReferenceIdeal.Gen Cert.ReferenceIdeal.Read
open Cert.Order Cert.Weights Cert.Channel Cert.RefOps

/-- An argument of the reference. -/
abbrev Arg : Type := (⟨S4x2048x16x64, .f32⟩ : BufTy).Contents (Elt Ideal)

/-! ## The correlation -/

theorem v0_apply (x : Arg) (b : Fin 4) (h : Fin 16) (e : Fin 64) (n : Fin 2048) :
    val_main_v0 (F := Ideal) x (ix4 b h e n) = x (ix4 b n h e) :=
  (val_main_v0_apply x _).trans (congrArg x (funext fun a => match a with
    | ⟨0, _⟩ => rfl
    | ⟨1, _⟩ => rfl
    | ⟨2, _⟩ => rfl
    | ⟨3, _⟩ => rfl))

theorem v1_apply (x : Arg) (b : Fin 4) (h : Fin 16) (e : Fin 64) (n : Fin 2048) :
    val_main_v1 (F := Ideal) x (ix4 b h e n) = x (ix4 b n h e) :=
  v0_apply x b h e n

theorem v2_apply (x : Arg) (b : Fin 4) (h : Fin 16) (e : Fin 64) (n : Fin 2048) :
    val_main_v2 (F := Ideal) x (ix4 b h e n) = x (ix4 b n h e) :=
  v0_apply x b h e n

/-- The index word of the shifted copies: lag plus time, modulo the length. -/
theorem v10_apply (t u : Fin 2048) : val_main_v10 (F := Ideal) (ix2 t u) = BitVec.ofNat 32 ((t.val + u.val) % 2048) := by
  rw [val_main_v10_apply, val_main_v8_apply, val_main_v6_apply, val_main_v7_apply, val_main_v4_apply, val_main_v5_apply,
    val_main_v3_apply, val_main_v3_apply, val_main_v9_apply, val_main_c_apply]
  exact wrap_word t.val u.val t.isLt u.isLt

theorem v15_apply (t u : Fin 2048) : val_main_v15 (F := Ideal) (ix2 t u) = BitVec.ofNat 32 ((t.val + u.val) % 2048) := by
  rw [val_main_v15_apply, val_main_v12_apply, v10_apply, val_main_v11_apply, val_main_c_0_apply]
  exact keep_word (by omega) _

theorem v16_apply (t u : Fin 2048) : val_main_v16 (F := Ideal) (ix3 t u 0) = BitVec.ofNat 32 ((t.val + u.val) % 2048) := by
  refine (val_main_v16_apply _).trans ((congrArg (val_main_v15 (F := Ideal)) (funext fun a => ?_)).trans (v15_apply t u))
  match a with
  | ⟨0, _⟩ => rfl
  | ⟨1, _⟩ => rfl

theorem v17_apply (x : Arg) (b : Fin 4) (h : Fin 16) (e : Fin 64) (t u : Fin 2048) :
    val_main_v17 (F := Ideal) x (ix5 b h e t u) = x (ix4 b (wrap u t) h e) := by
  refine (shifted_apply _ _ b h e t u (wrap u t) ?_).trans (v0_apply x b h e _)
  rw [v16_apply, Nat.add_comm]
  rfl

theorem v19_apply (x : Arg) (b : Fin 4) (h : Fin 16) (e : Fin 64) (t u : Fin 2048) :
    val_main_v19 (F := Ideal) x (ix5 b h e t u) = x (ix4 b u h e) := by
  rw [val_main_v19_apply, val_main_v18_apply]
  refine (congrArg (val_main_v1 (F := Ideal) x) (funext fun a => ?_)).trans (v1_apply x b h e u)
  match a with
  | ⟨0, _⟩ => rfl
  | ⟨1, _⟩ => rfl
  | ⟨2, _⟩ => rfl
  | ⟨3, _⟩ => rfl

section Channel

variable (x0 x1 x2 : Arg) (b : Fin 4) (h : Fin 16) (e : Fin 64) (Q K W : Fin 2048 → ℝ)
variable (hq : ∀ n, x0 (ix4 b n h e) = (Q n : EReal)) (hk : ∀ n, x1 (ix4 b n h e) = (K n : EReal))
variable (hv : ∀ n, x2 (ix4 b n h e) = (W n : EReal))
include hq hk

theorem v20_apply (t u : Fin 2048) :
    val_main_v20 (F := Ideal) x0 x1 (ix5 b h e t u) = ((Q (wrap u t) * K u : ℝ) : EReal) := by
  rw [val_main_v20_apply, v17_apply, v19_apply, hq, hk, EReal.coe_mul]
  rfl

/-- The reference's correlation of a channel. -/
theorem v21_apply (t : Fin 2048) : val_main_v21 (F := Ideal) x0 x1 (ix4 b h e t) = (corr Q K t : EReal) := by
  have hi : ∀ u : Fin 2048, idx_main_v21 (ix4 b h e t) u = ix5 b h e t u := fun u => funext fun a => match a with
    | ⟨0, _⟩ => rfl
    | ⟨1, _⟩ => rfl
    | ⟨2, _⟩ => rfl
    | ⟨3, _⟩ => rfl
    | ⟨4, _⟩ => rfl
  rw [val_main_v21_apply, val_main_cst_apply, zero_lit, EReal.coe_zero, zero_add]
  refine (Finset.sum_congr rfl fun u _ => ?_).trans (Layout.coe_sum Finset.univ fun u => Q (wrap u t) * K u)
  rw [hi u]
  exact v20_apply x0 x1 b h e Q K hq hk t u

/-! ## The seven largest and their weights -/

theorem values_apply (i : Fin 7) :
    val_main_values (F := Ideal) x0 x1 (ix4 b h e i) = (corr Q K (pick (corr Q K) i) : EReal) :=
  top_value _ (corr Q K) b h e (v21_apply x0 x1 b h e Q K hq hk) i _

theorem indices_apply (i : Fin 7) :
    val_main_indices (F := Ideal) x0 x1 (ix4 b h e i) = BitVec.ofNat 32 (pick (corr Q K) i).val :=
  top_position _ (corr Q K) b h e (v21_apply x0 x1 b h e Q K hq hk) i _

/-- The largest of the seven values is the first. -/
theorem v22_apply : val_main_v22 (F := Ideal) x0 x1 (ix3 b h e) = (corr Q K (pick (corr Q K) 0) : EReal) := by
  have hl : ∀ i : Fin 7, (by decide : S4x16x64x7.Reduces [3] S4x16x64).lift (ix3 b h e) i = ix4 b h e i := fun i =>
    funext fun a => match a with
    | ⟨0, _⟩ => rfl
    | ⟨1, _⟩ => rfl
    | ⟨2, _⟩ => rfl
    | ⟨3, _⟩ => rfl
  have hx : ∀ i : Fin 7, (val_main_values (F := Ideal) x0 x1 ∘ (by decide : S4x16x64x7.Reduces [3] S4x16x64).lift (ix3 b h e)) i
      = (corr Q K (pick (corr Q K) i) : EReal) := fun i =>
    (congrArg (val_main_values (F := Ideal) x0 x1) (hl i)).trans (values_apply x0 x1 b h e Q K hq hk i)
  unfold val_main_v22
  rw [Host.reduce_eq_fold_single FloatOps.maximumf _ _ _ (by decide : S4x16x64x7.Reduces [3] S4x16x64)]
  refine le_antisymm ((Finset.fold_max_le (c := (corr Q K (pick (corr Q K) 0) : EReal))).mpr ⟨?_, fun i _ => ?_⟩)
    ((Finset.le_fold_max (c := (corr Q K (pick (corr Q K) 0) : EReal))).mpr (Or.inr ⟨(0 : Fin 7), Finset.mem_univ _, ?_⟩))
  · exact (le_of_eq Rounds.negInf).trans bot_le
  · exact (le_of_eq (hx i)).trans (EReal.coe_le_coe_iff.mpr (le_pick _ i))
  · exact le_of_eq (hx 0).symm

theorem v24_apply : val_main_v24 (F := Ideal) x0 x1 (ix3 b h e) = (corr Q K (pick (corr Q K) 0) : EReal) := by
  rw [val_main_v24_apply, v22_apply x0 x1 b h e Q K hq hk, val_main_v23_apply, val_main_cst_3_apply, Rounds.negInf]
  exact max_eq_right bot_le

theorem v26_apply (i : Fin 7) : val_main_v26 (F := Ideal) x0 x1 (ix4 b h e i) = (corr Q K (pick (corr Q K) 0) : EReal) := by
  rw [val_main_v26_apply, val_main_v25_apply]
  refine (congrArg (val_main_v24 (F := Ideal) x0 x1) (funext fun a => ?_)).trans (v24_apply x0 x1 b h e Q K hq hk)
  match a with
  | ⟨0, _⟩ => rfl
  | ⟨1, _⟩ => rfl
  | ⟨2, _⟩ => rfl

theorem v28_apply (i : Fin 7) : val_main_v28 (F := Ideal) x0 x1 (ix4 b h e i) = (topE (corr Q K) i : EReal) := by
  rw [val_main_v28_apply, val_main_v27_apply, values_apply x0 x1 b h e Q K hq hk, v26_apply x0 x1 b h e Q K hq hk]
  show Ideal.exp ((corr Q K (pick (corr Q K) i) : EReal) - (corr Q K (pick (corr Q K) 0) : EReal)) = _
  rw [← EReal.coe_sub]
  exact Ideal.exp_coe _

theorem v29_apply : val_main_v29 (F := Ideal) x0 x1 (ix3 b h e) = ((∑ j, topE (corr Q K) j : ℝ) : EReal) := by
  have hi : ∀ i : Fin 7, idx_main_v29 (ix3 b h e) i = ix4 b h e i := fun i => funext fun a => match a with
    | ⟨0, _⟩ => rfl
    | ⟨1, _⟩ => rfl
    | ⟨2, _⟩ => rfl
    | ⟨3, _⟩ => rfl
  rw [val_main_v29_apply, val_main_cst_4_apply, zero_lit, EReal.coe_zero, zero_add]
  refine (Finset.sum_congr rfl fun i _ => ?_).trans (Layout.coe_sum Finset.univ (topE (corr Q K)))
  rw [hi i]
  exact v28_apply x0 x1 b h e Q K hq hk i

/-- The softmax weight of the `i`-th largest value. -/
theorem v32_apply (i : Fin 7) : val_main_v32 (F := Ideal) x0 x1 (ix4 b h e i) = (topW (corr Q K) i : EReal) := by
  have h31 : val_main_v31 (F := Ideal) x0 x1 (ix4 b h e i) = ((∑ j, topE (corr Q K) j : ℝ) : EReal) := by
    rw [val_main_v31_apply, val_main_v30_apply]
    refine (congrArg (val_main_v29 (F := Ideal) x0 x1) (funext fun a => ?_)).trans (v29_apply x0 x1 b h e Q K hq hk)
    match a with
    | ⟨0, _⟩ => rfl
    | ⟨1, _⟩ => rfl
    | ⟨2, _⟩ => rfl
  rw [val_main_v32_apply, v28_apply x0 x1 b h e Q K hq hk, h31]
  show Ideal.div _ _ = _
  rw [Ideal.div_coe (den_pos (corr Q K)).ne', ← EReal.coe_mul, mul_one_div]
  rfl

omit hq hk

/-! ## The weighted sum of the shifted values -/

include hv in
/-- The doubled sequence repeats the values. -/
theorem v33_apply (n : Fin 4096) :
    val_main_v33 (F := Ideal) x2 (ix4 b h e n) = (W ⟨n.val % 2048, by omega⟩ : EReal) := by
  unfold val_main_v33
  by_cases hn : n.val < 2048
  · refine (concatenate_pair_apply_left (t := S4x16x64x4096) (s₁ := S4x16x64x2048) (s₂ := S4x16x64x2048) (3 : Fin 4) _ _ _ _ rfl
      (ix4 b h e (⟨n.val, hn⟩ : Fin 2048)) fun a => match a with
        | ⟨0, _⟩ => rfl
        | ⟨1, _⟩ => rfl
        | ⟨2, _⟩ => rfl
        | ⟨3, _⟩ => rfl).trans ((v2_apply x2 b h e _).trans ((hv _).trans ?_))
    exact congrArg (fun m => ((W m : ℝ) : EReal)) (Fin.ext (Nat.mod_eq_of_lt hn).symm)
  · refine (concatenate_pair_apply_right (t := S4x16x64x4096) (s₁ := S4x16x64x2048) (s₂ := S4x16x64x2048) (3 : Fin 4) _ _ _ _ rfl rfl
      (ix4 b h e (⟨n.val - 2048, by omega⟩ : Fin 2048)) (fun a => match a with
        | ⟨0, _⟩ => fun _ => rfl
        | ⟨1, _⟩ => fun _ => rfl
        | ⟨2, _⟩ => fun _ => rfl
        | ⟨3, _⟩ => fun h => absurd rfl h) (by show n.val - 2048 + 2048 = n.val; omega)).trans ((v2_apply x2 b h e _).trans ((hv _).trans ?_))
    exact congrArg (fun m => ((W m : ℝ) : EReal)) (Fin.ext (by show n.val - 2048 = n.val % 2048; omega))

/-- A round's gathered value: with the index word time plus lag, the value at that time shifted by the lag. -/
theorem gathered (idx : IVec S4x16x64x2048x1 32) (p t : Fin 2048)
    (hv : ∀ n, x2 (ix4 b n h e) = (W n : EReal))
    (hi : idx (ix5 b h e t 0) = BitVec.ofNat 32 (t.val + p.val)) :
    Host.gather gather_S4x16x64x4096_S4x16x64x2048x1_S4x16x64x2048_n_3_012_012_3_4_1111 (val_main_v33 (F := Ideal) x2) idx
      (ix4 b h e t) = (W (wrap p t) : EReal) := by
  refine (along_apply _ _ b h e t ⟨t.val + p.val, by omega⟩ hi).trans ((v33_apply x2 b h e W hv _).trans ?_)
  exact congrArg (fun m => ((W m : ℝ) : EReal)) (Fin.ext (congrArg (· % 2048) (Nat.add_comm t.val p.val)))

/-- The index words as one column. -/
theorem column_apply (y : S4x16x64x2048.Idx → BitVec 32) (t : Fin 2048) :
    shapeCast S4x16x64x2048x1 y shapeCasts_S4x16x64x2048_S4x16x64x2048x1 (ix5 b h e t 0) = y (ix4 b h e t) := by
  refine shapeCast_apply y _ _ (ix4 b h e t) ?_
  rw [Shape.rowMajor_val_four, Shape.rowMajor_val_five]
  show ((b.val * 16 + h.val) * 64 + e.val) * 2048 + t.val = (((b.val * 16 + h.val) * 64 + e.val) * 2048 + t.val) * 1 + 0
  omega

include hq hk hv

/-- Column `i` of an array of sevens, repeated along time. -/
def col {α : Type} (i : Fin 7) (y : S4x16x64x7.Idx → α) : S4x16x64x2048.Idx → α :=
  broadcastInDim S4x16x64x2048 ![0, 1, 2, 3] bcast_S4x16x64x1_S4x16x64x2048_0_1_2_3
    (extractStridedSlice S4x16x64x1 ![0, 0, 0, i.val] y ((by decide : ∀ i : Fin 7, S4x16x64x7.Slices ![0, 0, 0, i.val] S4x16x64x1) i))

omit hq hk hv in
theorem col_apply {α : Type} (i : Fin 7) (y : S4x16x64x7.Idx → α) (t : Fin 2048) : col i y (ix4 b h e t) = y (ix4 b h e i) := by
  unfold col
  refine (broadcastInDim_apply _ _ _ _ (ix4 b h e (0 : Fin 1)) fun a => match a with
    | ⟨0, _⟩ => rfl
    | ⟨1, _⟩ => rfl
    | ⟨2, _⟩ => rfl
    | ⟨3, _⟩ => rfl).trans (extractStridedSlice_apply _ y _ _ (ix4 b h e i) fun a => match a with
    | ⟨0, _⟩ => (Nat.zero_add _).symm
    | ⟨1, _⟩ => (Nat.zero_add _).symm
    | ⟨2, _⟩ => (Nat.zero_add _).symm
    | ⟨3, _⟩ => rfl)

/-- Round `i`'s index words: time plus the `i`-th lag. -/
def word (x0 x1 : Arg) (i : Fin 7) : IVec S4x16x64x2048 32 :=
  addi (val_main_v37 (F := Ideal)) (col i (val_main_indices (F := Ideal) x0 x1))

/-- Round `i`'s term of the result: the values gathered at its index words, times the `i`-th weight. -/
def term (x0 x1 x2 : Arg) (i : Fin 7) : FVec Ideal S4x16x64x2048 .f32 :=
  mulf (Host.gather gather_S4x16x64x4096_S4x16x64x2048x1_S4x16x64x2048_n_3_012_012_3_4_1111 (val_main_v33 (F := Ideal) x2)
    (shapeCast S4x16x64x2048x1 (select (cmpi .slt (word x0 x1 i) (val_main_call0_v0 (F := Ideal)))
      (addi (word x0 x1 i) (val_main_call0_v2 (F := Ideal))) (word x0 x1 i)) shapeCasts_S4x16x64x2048_S4x16x64x2048x1))
    (col i (val_main_v32 (F := Ideal) x0 x1))

omit hv in
theorem word_apply (i : Fin 7) (t : Fin 2048) :
    word x0 x1 i (ix4 b h e t) = BitVec.ofNat 32 (t.val + (pick (corr Q K) i).val) := by
  have h37 : val_main_v37 (F := Ideal) (ix4 b h e t) = BitVec.ofNat 32 t.val := by
    rw [val_main_v37_apply, val_main_v35_apply, val_main_v3_apply]
  show IntOp.addi (val_main_v37 (F := Ideal) (ix4 b h e t)) (col i (val_main_indices (F := Ideal) x0 x1) (ix4 b h e t)) = _
  rw [h37, col_apply, indices_apply x0 x1 b h e Q K hq hk]
  exact (BitVec.ofNat_add _ _).symm

/-- A round's term: the weight times the shifted value. -/
theorem term_apply (i : Fin 7) (t : Fin 2048) :
    term x0 x1 x2 i (ix4 b h e t) = ((topW (corr Q K) i * W (wrap (pick (corr Q K) i) t) : ℝ) : EReal) := by
  have hs : select (cmpi .slt (word x0 x1 i) (val_main_call0_v0 (F := Ideal)))
      (addi (word x0 x1 i) (val_main_call0_v2 (F := Ideal))) (word x0 x1 i) (ix4 b h e t)
      = BitVec.ofNat 32 (t.val + (pick (corr Q K) i).val) := by
    show Scalar.select (IntOp.cmpi .slt (word x0 x1 i (ix4 b h e t)) (val_main_call0_v0 (F := Ideal) (ix4 b h e t))) _
      (word x0 x1 i (ix4 b h e t)) = _
    rw [word_apply x0 x1 b h e Q K hq hk, val_main_call0_v0_apply, val_main_call0_c_apply]
    exact keep_word (by omega) _
  refine (congrArg₂ (fun p q : EReal => p * q) (gathered x2 b h e W _ (pick (corr Q K) i) t hv ((column_apply b h e _ t).trans hs))
    ((col_apply b h e i _ t).trans (v32_apply x0 x1 b h e Q K hq hk i))).trans ?_
  rw [mul_comm (topW _ _), EReal.coe_mul]

omit hq hk hv in
/-- Each round's product is its term. -/
theorem rounds_eq : val_main_v43 (F := Ideal) x0 x1 x2 = term x0 x1 x2 0 ∧ val_main_v53 (F := Ideal) x0 x1 x2 = term x0 x1 x2 1
    ∧ val_main_v63 (F := Ideal) x0 x1 x2 = term x0 x1 x2 2 ∧ val_main_v73 (F := Ideal) x0 x1 x2 = term x0 x1 x2 3
    ∧ val_main_v83 (F := Ideal) x0 x1 x2 = term x0 x1 x2 4 ∧ val_main_v93 (F := Ideal) x0 x1 x2 = term x0 x1 x2 5
    ∧ val_main_v103 (F := Ideal) x0 x1 x2 = term x0 x1 x2 6 :=
  ⟨rfl, rfl, rfl, rfl, rfl, rfl, rfl⟩

/-- The reference's result at an entry. -/
theorem result_apply (t : Fin 2048) : val_main_v105 (F := Ideal) x0 x1 x2 (ix4 b t h e) = (agg Q K W t : EReal) := by
  have h104 : val_main_v104 (F := Ideal) x0 x1 x2 (ix4 b h e t) = (agg Q K W t : EReal) := by
    obtain ⟨e0, e1, e2, e3, e4, e5, e6⟩ := rounds_eq x0 x1 x2
    rw [val_main_v104_apply, val_main_v94_apply, val_main_v84_apply, val_main_v74_apply, val_main_v64_apply, val_main_v54_apply,
      val_main_v44_apply, val_main_v34_apply, val_main_cst_5_apply, zero_lit, EReal.coe_zero, e0, e1, e2, e3, e4, e5, e6]
    simp only [term_apply x0 x1 x2 b h e Q K W hq hk hv]
    unfold agg
    rw [Fin.sum_univ_seven]
    simp only [EReal.coe_add]
    refine Eq.trans ?_ (congrArg (· + _ + _ + _ + _ + _ + _) (zero_add _))
    rfl
  refine (val_main_v105_apply x0 x1 x2 _).trans ((congrArg (val_main_v104 (F := Ideal) x0 x1 x2) (funext fun a => ?_)).trans h104)
  match a with
  | ⟨0, _⟩ => rfl
  | ⟨1, _⟩ => rfl
  | ⟨2, _⟩ => rfl
  | ⟨3, _⟩ => rfl

end Channel

end Cert.RefRead
-- ==== Proof.Finite.lean ====
/-
  The precondition read: where it holds, every entry of the three float arguments is a real number.
-/
module

public import proofs.«01_k».proof.Proof.Gen.Pre_finite
public import Idealize.ShloMosaic.Lib.ReduceAll
public import Idealize.ShloMosaic.PureOps.Ideal.Laws

@[expose] public section

set_option synthInstance.maxSize 4096

noncomputable section

namespace Cert.Finite

open Idealize.ShloMosaic Cert.Pre_finite Cert.Pre_finite.Facts

instance : Subsingleton S_.Idx := ⟨fun _ _ => funext fun a => a.elim0⟩

/-- A value whose magnitude is below infinity is a real number. -/
theorem real_of_lt (x : EReal) (hx : max x (-x) < ⊤) : x = (x.toReal : EReal) := by
  refine (EReal.coe_toReal (fun h => ?_) fun h => ?_).symm
  · exact absurd ((le_max_left x (-x)).trans_lt hx) (by rw [h]; exact lt_irrefl _)
  · exact absurd ((le_max_right x (-x)).trans_lt hx) (by rw [h, EReal.neg_bot]; exact lt_irrefl _)

variable [hF : Cert.Pre_finite.Facts]

/-- The test of one argument, as the precondition makes it. -/
theorem real_of_test (x : FVec Ideal S4x2048x16x64 .f32)
    (h : Host.reduce IntOp.andi (cmpf .olt (Host.absf x) (broadcastInDim S4x2048x16x64 ![] bcast_S_S4x2048x16x64
      (constant (F := Ideal) S_ .f32 0x7F800000#32))) (constantI S_ 1 1#1) reducesTo_S4x2048x16x64_S_d0_1_2_3 h_S_ (fun a => a.elim0) = 1#1)
    (j : S4x2048x16x64.Idx) : x j = ((x j : EReal).toReal : EReal) := by
  have hj := Host.reduce_andi_all _ _ _ _ _ h j
  have ht : (FloatOps.ofBits .f32 0x7F800000#32 : Ideal .f32) = (⊤ : EReal) := by
    show Ideal.ofBits .f32 0x7F800000#32 = _
    simp [Ideal.ofBits, Ideal.ieee]
  have hc : BitVec.ofBool (decide (max (x j : EReal) (-(x j : EReal)) < (FloatOps.ofBits .f32 0x7F800000#32 : Ideal .f32))) = 1#1 := hj
  refine real_of_lt (x j) ?_
  rw [ht] at hc
  by_contra hn
  rw [decide_eq_false hn] at hc
  exact absurd hc (by decide)

/-- Where the precondition holds, the three float arguments are real. -/
theorem real_of_pre (x0 x1 x2 : FVec Ideal S4x2048x16x64 .f32) (x3 : IVec S4x1x2048x2048 1)
    (h : fn (F := Ideal) x0 x1 x2 x3 = fun _ => 1#1) :
    (∀ j, x0 j = ((x0 j : EReal).toReal : EReal)) ∧ (∀ j, x1 j = ((x1 j : EReal).toReal : EReal))
      ∧ (∀ j, x2 j = ((x2 j : EReal).toReal : EReal)) := by
  have h' := congrFun h (fun a => a.elim0)
  obtain ⟨h01, h2⟩ := IntOp.andi_eq_one.mp h'
  obtain ⟨h0, h1⟩ := IntOp.andi_eq_one.mp h01
  exact ⟨real_of_test x0 h0, real_of_test x1 h1, real_of_test x2 h2⟩

end Cert.Finite
-- ==== Proof.lean ====
/-
  The proof of `Cert.Claim`: the frames of the kernel program, its idealization and the reference; the idealization, which
  rewrote nothing; and the equality, over the extended reals, of the kernel's result and the reference's wherever the float
  arguments are finite. Both results are the aggregation of every channel: the kernel's by Proof/KernelRun.lean, the
  reference's by Proof/RefRead.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.KernelRun
public import proofs.«01_k».proof.Proof.RefRead
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The reference's run at real arguments: the same value as the kernel program's, and its arguments unchanged. -/
theorem reference_run (m' : (ℓ : Loc ReferenceIdeal.nD ReferenceIdeal.τ ReferenceIdeal.sig) → Buf (Elt Ideal) ℓ)
    (g' : Dev ReferenceIdeal.nD → PrngReg) (x0 x1 x2 : Dev ReferenceIdeal.nD → KernelIdeal.S4x2048x16x64.Idx → EReal)
    (h0 : ∀ c, KernelRun.Real4 (x0 c)) (h1 : ∀ c, KernelRun.Real4 (x1 c)) (h2 : ∀ c, KernelRun.Real4 (x2 c))
    (e0 : ∀ c : Dev ReferenceIdeal.nD, m' ((c.tc : Thread ReferenceIdeal.nD ReferenceIdeal.τ).loc ReferenceIdeal.main_arg0) = x0 c)
    (e1 : ∀ c : Dev ReferenceIdeal.nD, m' ((c.tc : Thread ReferenceIdeal.nD ReferenceIdeal.τ).loc ReferenceIdeal.main_arg1) = x1 c)
    (e2 : ∀ c : Dev ReferenceIdeal.nD, m' ((c.tc : Thread ReferenceIdeal.nD ReferenceIdeal.τ).loc ReferenceIdeal.main_arg2) = x2 c) :
    θ_run (ReferenceIdeal.defs (F := Ideal)) (onTc (τ := ReferenceIdeal.τ) (ReferenceIdeal.main (F := Ideal))) ⟨m', fun _ => 0, g'⟩
      (fun r => ∀ c : Dev ReferenceIdeal.nD,
        r.2.mem ((c.tc : Thread ReferenceIdeal.nD ReferenceIdeal.τ).loc ReferenceIdeal.main_v105) = KernelRun.value (x0 c) (x1 c) (x2 c)
        ∧ r.2.mem ((c.tc : Thread ReferenceIdeal.nD ReferenceIdeal.τ).loc ReferenceIdeal.main_arg0) = m' ((c.tc : Thread ReferenceIdeal.nD ReferenceIdeal.τ).loc ReferenceIdeal.main_arg0)
        ∧ r.2.mem ((c.tc : Thread ReferenceIdeal.nD ReferenceIdeal.τ).loc ReferenceIdeal.main_arg1) = m' ((c.tc : Thread ReferenceIdeal.nD ReferenceIdeal.τ).loc ReferenceIdeal.main_arg1)
        ∧ r.2.mem ((c.tc : Thread ReferenceIdeal.nD ReferenceIdeal.τ).loc ReferenceIdeal.main_arg2) = m' ((c.tc : Thread ReferenceIdeal.nD ReferenceIdeal.τ).loc ReferenceIdeal.main_arg2)
        ∧ r.2.mem ((c.tc : Thread ReferenceIdeal.nD ReferenceIdeal.τ).loc ReferenceIdeal.main_arg3) = m' ((c.tc : Thread ReferenceIdeal.nD ReferenceIdeal.τ).loc ReferenceIdeal.main_arg3)) := by
  refine (θ_run ReferenceIdeal.defs _ _).mono (fun r h c => ⟨(h c).1.trans ?_, (h c).2⟩) (ReferenceIdeal.Value.run (F := Ideal) m' g')
  refine (ReferenceIdeal.Read.val_main_v105_eq (StableHlo.launchContents m' c)).trans (funext fun J => ?_)
  obtain ⟨b, l, h, e, rfl⟩ : ∃ (b : Fin 4) (l : Fin 2048) (h : Fin 16) (e : Fin 64), J = ix4 b l h e :=
    ⟨J 0, J 1, J 2, J 3, eq_ix4 J⟩
  exact RefRead.result_apply _ _ _ b h e (KernelRun.seq (x0 c) b h e) (KernelRun.seq (x1 c) b h e) (KernelRun.seq (x2 c) b h e)
    (fun n => (congrFun (e0 c) (ix4 b n h e)).trans (h0 c _)) (fun n => (congrFun (e1 c) (ix4 b n h e)).trans (h1 c _))
    (fun n => (congrFun (e2 c) (ix4 b n h e)).trans (h2 c _)) l

/-- The reference's frame: its arguments are unchanged, and it declares no semaphore. -/
theorem reference_frame (m' : (ℓ : Loc ReferenceIdeal.nD ReferenceIdeal.τ ReferenceIdeal.sig) → Buf (Elt Ideal) ℓ)
    (g' : Dev ReferenceIdeal.nD → PrngReg) :
    θ_run (ReferenceIdeal.defs (F := Ideal)) (onTc (τ := ReferenceIdeal.τ) (ReferenceIdeal.main (F := Ideal))) ⟨m', fun _ => 0, g'⟩
      (fun r => (∀ c : Dev ReferenceIdeal.nD,
        r.2.mem ((c.tc : Thread ReferenceIdeal.nD ReferenceIdeal.τ).loc ReferenceIdeal.main_arg0) = m' ((c.tc : Thread ReferenceIdeal.nD ReferenceIdeal.τ).loc ReferenceIdeal.main_arg0)
        ∧ r.2.mem ((c.tc : Thread ReferenceIdeal.nD ReferenceIdeal.τ).loc ReferenceIdeal.main_arg1) = m' ((c.tc : Thread ReferenceIdeal.nD ReferenceIdeal.τ).loc ReferenceIdeal.main_arg1)
        ∧ r.2.mem ((c.tc : Thread ReferenceIdeal.nD ReferenceIdeal.τ).loc ReferenceIdeal.main_arg2) = m' ((c.tc : Thread ReferenceIdeal.nD ReferenceIdeal.τ).loc ReferenceIdeal.main_arg2)
        ∧ r.2.mem ((c.tc : Thread ReferenceIdeal.nD ReferenceIdeal.τ).loc ReferenceIdeal.main_arg3) = m' ((c.tc : Thread ReferenceIdeal.nD ReferenceIdeal.τ).loc ReferenceIdeal.main_arg3))
      ∧ r.2.sem = fun _ => 0) :=
  (θ_run ReferenceIdeal.defs _ _).mono (fun r h => ⟨fun c => (h c).2, sem_eq_zero_of_no_sems (by decide) r.2⟩)
    (ReferenceIdeal.Value.run (F := Ideal) m' g')

/-- The kernel's result and the reference's are equal over the extended reals wherever the float arguments are finite. -/
theorem equal_results : algebraic_KernelIdeal_ReferenceIdeal_pre_finite := by
  intro m g m' g' hpre hagree
  have hr := fun c => Finite.real_of_pre _ _ _ _ (hpre c)
  exact ⟨fun c => KernelRun.value (m ⟨c, Proc.devRef .tc KernelIdeal.main_arg0⟩) (m ⟨c, Proc.devRef .tc KernelIdeal.main_arg1⟩)
      (m ⟨c, Proc.devRef .tc KernelIdeal.main_arg2⟩),
    KernelRun.run m g (fun c => (hr c).1) (fun c => (hr c).2.1) (fun c => (hr c).2.2),
    reference_run m' g' _ _ _ (fun c => (hr c).1) (fun c => (hr c).2.1) (fun c => (hr c).2.2) (fun c => (hagree c).1)
      (fun c => (hagree c).2.1) (fun c => (hagree c).2.2.1)⟩

theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, equal_results⟩

end Cert.Proof

end
